-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x6x48x64 : Shape := ⟨4, ![40, 6, 48, 64]⟩
abbrev S40x48x64x128 : Shape := ⟨4, ![40, 48, 64, 128]⟩
abbrev S40x48x64 : Shape := ⟨3, ![40, 48, 64]⟩
abbrev S40x6x1x128 : Shape := ⟨4, ![40, 6, 1, 128]⟩
abbrev S40x6x48 : Shape := ⟨3, ![40, 6, 48]⟩
abbrev S48 : Shape := ⟨1, ![48]⟩
abbrev S40x6x6x128x4 : Shape := ⟨5, ![40, 6, 6, 128, 4]⟩
abbrev S40x6x6x4x128 : Shape := ⟨5, ![40, 6, 6, 4, 128]⟩
abbrev S40x6x6x8x128 : Shape := ⟨5, ![40, 6, 6, 8, 128]⟩
abbrev S40x6x512x128 : Shape := ⟨4, ![40, 6, 512, 128]⟩
abbrev S40x6x128x4 : Shape := ⟨4, ![40, 6, 128, 4]⟩
abbrev S40x6x4x128 : Shape := ⟨4, ![40, 6, 4, 128]⟩
abbrev S40x6x8x128 : Shape := ⟨4, ![40, 6, 8, 128]⟩
abbrev S40x6x128 : Shape := ⟨3, ![40, 6, 128]⟩
abbrev S40x6x512 : Shape := ⟨3, ![40, 6, 512]⟩
abbrev S40x6x1x512 : Shape := ⟨4, ![40, 6, 1, 512]⟩
abbrev S40x6x6x1x8 : Shape := ⟨5, ![40, 6, 6, 1, 8]⟩
abbrev S40x6x6x1x8x16 : Shape := ⟨6, ![40, 6, 6, 1, 8, 16]⟩
abbrev S40x6x6x1x128 : Shape := ⟨5, ![40, 6, 6, 1, 128]⟩
abbrev S6x1x8 : Shape := ⟨3, ![6, 1, 8]⟩
abbrev S6x1x8x16 : Shape := ⟨4, ![6, 1, 8, 16]⟩
abbrev S6x1x128 : Shape := ⟨3, ![6, 1, 128]⟩
abbrev S6x8x128 : Shape := ⟨3, ![6, 8, 128]⟩
abbrev S40x6x6x512x128 : Shape := ⟨5, ![40, 6, 6, 512, 128]⟩
abbrev S1x6x6x8x128 : Shape := ⟨5, ![1, 6, 6, 8, 128]⟩
abbrev S1x6x512x128 : Shape := ⟨4, ![1, 6, 512, 128]⟩
abbrev S1x6x8x128 : Shape := ⟨4, ![1, 6, 8, 128]⟩
abbrev S1x6x1x512 : Shape := ⟨4, ![1, 6, 1, 512]⟩
abbrev S1x6x6x512x128 : Shape := ⟨5, ![1, 6, 6, 512, 128]⟩
abbrev S64x8x128 : Shape := ⟨3, ![64, 8, 128]⟩
abbrev S8x512 : Shape := ⟨2, ![8, 512]⟩
abbrev S1x1x512x128 : Shape := ⟨4, ![1, 1, 512, 128]⟩
abbrev S512x128 : Shape := ⟨2, ![512, 128]⟩
abbrev S128x4x128 : Shape := ⟨3, ![128, 4, 128]⟩
abbrev S1x1x8x128 : Shape := ⟨4, ![1, 1, 8, 128]⟩
abbrev S8x128 : Shape := ⟨2, ![8, 128]⟩
abbrev S1x1x1x8x128 : Shape := ⟨5, ![1, 1, 1, 8, 128]⟩
abbrev S1x8x128 : Shape := ⟨3, ![1, 8, 128]⟩
abbrev S1x1x1x512 : Shape := ⟨4, ![1, 1, 1, 512]⟩
abbrev S1x512 : Shape := ⟨2, ![1, 512]⟩
abbrev S512x8 : Shape := ⟨2, ![512, 8]⟩
abbrev S512x1 : Shape := ⟨2, ![512, 1]⟩
abbrev S1x1x1x512x128 : Shape := ⟨5, ![1, 1, 1, 512, 128]⟩
abbrev S40x6x48x64x128 : Shape := ⟨5, ![40, 6, 48, 64, 128]⟩

abbrev nBuf : Space → Nat
  | .hbm => 54
  | .vmem => 22
  | .smem => 0
  | _ => 0

abbrev bufTy : (tb : Table) → Fin (tcTables nBuf tb) → BufTy
  | .hbm, ⟨0, _⟩ => ⟨S40x6x48x64, .bf16⟩
  | .hbm, ⟨1, _⟩ => ⟨S40x48x64x128, .fp8e4m3⟩
  | .hbm, ⟨2, _⟩ => ⟨S40x48x64, .f32⟩
  | .hbm, ⟨3, _⟩ => ⟨S40x6x1x128, .bf16⟩
  | .hbm, ⟨4, _⟩ => ⟨S40x6x1x128, .bf16⟩
  | .hbm, ⟨5, _⟩ => ⟨S40x6x48, .f32⟩
  | .hbm, ⟨6, _⟩ => ⟨S48, .f32⟩
  | .hbm, ⟨7, _⟩ => ⟨S48, .f32⟩
  | .hbm, ⟨8, _⟩ => ⟨S48, .f32⟩
  | .hbm, ⟨9, _⟩ => ⟨S40x6x6x128x4, .bf16⟩
  | .hbm, ⟨10, _⟩ => ⟨S40x6x6x4x128, .bf16⟩
  | .hbm, ⟨11, _⟩ => ⟨S40x6x6x4x128, .f32⟩
  | .hbm, ⟨12, _⟩ => ⟨S40x6x6x8x128, .f32⟩
  | .hbm, ⟨13, _⟩ => ⟨S40x6x512x128, .fp8e4m3⟩
  | .hbm, ⟨14, _⟩ => ⟨S40x6x128x4, .f32⟩
  | .hbm, ⟨15, _⟩ => ⟨S40x6x4x128, .f32⟩
  | .hbm, ⟨16, _⟩ => ⟨S40x6x8x128, .f32⟩
  | .hbm, ⟨17, _⟩ => ⟨S40x6x128, .bf16⟩
  | .hbm, ⟨18, _⟩ => ⟨S40x6x128, .f32⟩
  | .hbm, ⟨19, _⟩ => ⟨S40x6x128x4, .f32⟩
  | .hbm, ⟨20, _⟩ => ⟨S40x6x512, .f32⟩
  | .hbm, ⟨21, _⟩ => ⟨S40x6x1x512, .f32⟩
  | .hbm, ⟨22, _⟩ => ⟨S40x6x128, .bf16⟩
  | .hbm, ⟨23, _⟩ => ⟨S40x6x128, .f32⟩
  | .hbm, ⟨24, _⟩ => ⟨S40x6x128x4, .f32⟩
  | .hbm, ⟨25, _⟩ => ⟨S40x6x512, .f32⟩
  | .hbm, ⟨26, _⟩ => ⟨S40x6x1x512, .f32⟩
  | .hbm, ⟨27, _⟩ => ⟨S40x6x6x1x8, .f32⟩
  | .hbm, ⟨28, _⟩ => ⟨S40x6x6x1x8x16, .f32⟩
  | .hbm, ⟨29, _⟩ => ⟨S40x6x6x1x128, .f32⟩
  | .hbm, ⟨30, _⟩ => ⟨S40x6x6x8x128, .f32⟩
  | .hbm, ⟨31, _⟩ => ⟨S6x1x8, .f32⟩
  | .hbm, ⟨32, _⟩ => ⟨S6x1x8x16, .f32⟩
  | .hbm, ⟨33, _⟩ => ⟨S6x1x128, .f32⟩
  | .hbm, ⟨34, _⟩ => ⟨S6x8x128, .f32⟩
  | .hbm, ⟨35, _⟩ => ⟨S6x1x8, .f32⟩
  | .hbm, ⟨36, _⟩ => ⟨S6x1x8x16, .f32⟩
  | .hbm, ⟨37, _⟩ => ⟨S6x1x128, .f32⟩
  | .hbm, ⟨38, _⟩ => ⟨S6x8x128, .f32⟩
  | .hbm, ⟨39, _⟩ => ⟨S6x1x8, .f32⟩
  | .hbm, ⟨40, _⟩ => ⟨S6x1x8x16, .f32⟩
  | .hbm, ⟨41, _⟩ => ⟨S6x1x128, .f32⟩
  | .hbm, ⟨42, _⟩ => ⟨S6x8x128, .f32⟩
  | .hbm, ⟨43, _⟩ => ⟨S40x6x6x8x128, .f32⟩
  | .hbm, ⟨44, _⟩ => ⟨S40x6x6x512x128, .fp8e4m3⟩
  | .hbm, ⟨45, _⟩ => ⟨S40x6x6x8x128, .f32⟩
  | .hbm, ⟨46, _⟩ => ⟨S40x6x6x4x128, .f32⟩
  | .hbm, ⟨47, _⟩ => ⟨S40x6x6x128x4, .f32⟩
  | .hbm, ⟨48, _⟩ => ⟨S40x6x48x64, .f32⟩
  | .hbm, ⟨49, _⟩ => ⟨S40x6x48x64, .bf16⟩
  | .hbm, ⟨50, _⟩ => ⟨S40x6x48x64x128, .fp8e4m3⟩
  | .hbm, ⟨51, _⟩ => ⟨S40x6x6x4x128, .f32⟩
  | .hbm, ⟨52, _⟩ => ⟨S40x6x6x128x4, .f32⟩
  | .hbm, ⟨53, _⟩ => ⟨S40x6x48x64, .f32⟩
  | .local _ .vmem, ⟨0, _⟩ => ⟨S1x6x6x8x128, .f32⟩
  | .local _ .vmem, ⟨1, _⟩ => ⟨S1x6x6x8x128, .f32⟩
  | .local _ .vmem, ⟨2, _⟩ => ⟨S1x6x512x128, .fp8e4m3⟩
  | .local _ .vmem, ⟨3, _⟩ => ⟨S1x6x512x128, .fp8e4m3⟩
  | .local _ .vmem, ⟨4, _⟩ => ⟨S1x6x8x128, .f32⟩
  | .local _ .vmem, ⟨5, _⟩ => ⟨S1x6x8x128, .f32⟩
  | .local _ .vmem, ⟨6, _⟩ => ⟨S1x6x1x512, .f32⟩
  | .local _ .vmem, ⟨7, _⟩ => ⟨S1x6x1x512, .f32⟩
  | .local _ .vmem, ⟨8, _⟩ => ⟨S1x6x1x512, .f32⟩
  | .local _ .vmem, ⟨9, _⟩ => ⟨S1x6x1x512, .f32⟩
  | .local _ .vmem, ⟨10, _⟩ => ⟨S1x6x6x8x128, .f32⟩
  | .local _ .vmem, ⟨11, _⟩ => ⟨S1x6x6x8x128, .f32⟩
  | .local _ .vmem, ⟨12, _⟩ => ⟨S6x8x128, .f32⟩
  | .local _ .vmem, ⟨13, _⟩ => ⟨S6x8x128, .f32⟩
  | .local _ .vmem, ⟨14, _⟩ => ⟨S6x8x128, .f32⟩
  | .local _ .vmem, ⟨15, _⟩ => ⟨S1x6x6x8x128, .f32⟩
  | .local _ .vmem, ⟨16, _⟩ => ⟨S1x6x6x8x128, .f32⟩
  | .local _ .vmem, ⟨17, _⟩ => ⟨S1x6x6x512x128, .fp8e4m3⟩
  | .local _ .vmem, ⟨18, _⟩ => ⟨S1x6x6x512x128, .fp8e4m3⟩
  | .local _ .vmem, ⟨19, _⟩ => ⟨S1x6x6x8x128, .f32⟩
  | .local _ .vmem, ⟨20, _⟩ => ⟨S1x6x6x8x128, .f32⟩
  | .local _ .vmem, ⟨21, _⟩ => ⟨S64x8x128, .f32⟩
  | _, _ => ⟨S40x6x48x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v34_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_9 : BitVec 32 := 0#32
  let c6_i32 : BitVec 32 := 6#32
  let v35 : BitVec 32 := Scalar.addi c0_i32_9 c6_i32
  let c1_i32_10 : BitVec 32 := 1#32
  ⟨c0_i32_9, v35, c1_i32_10⟩
def k0_off1 (k0_t1 : Fin k0_t1_loop.trips) : Fin 4 → Nat :=
  let c0 : Index := 0#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v38 : Index := Scalar.indexCast v37
  let c0_14 : Index := 0#32
  let c0_15 : Index := 0#32
  ![0, v38.toNat, 0, 0]
def k0_off2 (k0_t1 : Fin k0_t1_loop.trips) : Fin 4 → Nat :=
  let c0_16 : Index := 0#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v44 : Index := Scalar.indexCast v37
  let c0_17 : Index := 0#32
  let c0_18 : Index := 0#32
  ![0, v44.toNat, 0, 0]
def k0_off3 (k0_t1 : Fin k0_t1_loop.trips) : Fin 5 → Nat :=
  let c0_19 : Index := 0#32
  let c0_20 : Index := 0#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v47 : Index := Scalar.indexCast v37
  let c0_21 : Index := 0#32
  let c0_22 : Index := 0#32
  ![0, 0, v47.toNat, 0, 0]
def k0_off4 (k0_t1 : Fin k0_t1_loop.trips) : Fin 3 → Nat :=
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v50 : Index := Scalar.indexCast v37
  let c0_23 : Index := 0#32
  let c0_24 : Index := 0#32
  ![v50.toNat, 0, 0]
def k0_off5 (k0_t1 : Fin k0_t1_loop.trips) : Fin 5 → Nat :=
  let c0_69 : Index := 0#32
  let c0_70 : Index := 0#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v206 : Index := Scalar.indexCast v37
  let c0_71 : Index := 0#32
  let c0_72 : Index := 0#32
  ![0, 0, v206.toNat, 0, 0]
def k0_off6 (k0_t1 : Fin k0_t1_loop.trips) : Fin 5 → Nat :=
  let c0_89 : Index := 0#32
  let c1 : Index := 1#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v233 : Index := Scalar.indexCast v37
  let c0_90 : Index := 0#32
  let c0_91 : Index := 0#32
  ![0, 1, v233.toNat, 0, 0]
def k0_off7 (k0_t1 : Fin k0_t1_loop.trips) : Fin 5 → Nat :=
  let c0_148 : Index := 0#32
  let c1_149 : Index := 1#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v392 : Index := Scalar.indexCast v37
  let c0_150 : Index := 0#32
  let c0_151 : Index := 0#32
  ![0, 1, v392.toNat, 0, 0]
def k0_off8 (k0_t1 : Fin k0_t1_loop.trips) : Fin 5 → Nat :=
  let c0_168 : Index := 0#32
  let c2 : Index := 2#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v419 : Index := Scalar.indexCast v37
  let c0_169 : Index := 0#32
  let c0_170 : Index := 0#32
  ![0, 2, v419.toNat, 0, 0]
def k0_off9 (k0_t1 : Fin k0_t1_loop.trips) : Fin 5 → Nat :=
  let c0_227 : Index := 0#32
  let c2_228 : Index := 2#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v578 : Index := Scalar.indexCast v37
  let c0_229 : Index := 0#32
  let c0_230 : Index := 0#32
  ![0, 2, v578.toNat, 0, 0]
def k0_off10 (k0_t1 : Fin k0_t1_loop.trips) : Fin 5 → Nat :=
  let c0_247 : Index := 0#32
  let c3 : Index := 3#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v605 : Index := Scalar.indexCast v37
  let c0_248 : Index := 0#32
  let c0_249 : Index := 0#32
  ![0, 3, v605.toNat, 0, 0]
def k0_off11 (k0_t1 : Fin k0_t1_loop.trips) : Fin 5 → Nat :=
  let c0_306 : Index := 0#32
  let c3_307 : Index := 3#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v764 : Index := Scalar.indexCast v37
  let c0_308 : Index := 0#32
  let c0_309 : Index := 0#32
  ![0, 3, v764.toNat, 0, 0]
def k0_off12 (k0_t1 : Fin k0_t1_loop.trips) : Fin 5 → Nat :=
  let c0_326 : Index := 0#32
  let c4 : Index := 4#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v791 : Index := Scalar.indexCast v37
  let c0_327 : Index := 0#32
  let c0_328 : Index := 0#32
  ![0, 4, v791.toNat, 0, 0]
def k0_off13 (k0_t1 : Fin k0_t1_loop.trips) : Fin 5 → Nat :=
  let c0_385 : Index := 0#32
  let c4_386 : Index := 4#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v950 : Index := Scalar.indexCast v37
  let c0_387 : Index := 0#32
  let c0_388 : Index := 0#32
  ![0, 4, v950.toNat, 0, 0]
def k0_off14 (k0_t1 : Fin k0_t1_loop.trips) : Fin 5 → Nat :=
  let c0_405 : Index := 0#32
  let c5 : Index := 5#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v977 : Index := Scalar.indexCast v37
  let c0_406 : Index := 0#32
  let c0_407 : Index := 0#32
  ![0, 5, v977.toNat, 0, 0]
def k0_off15 (k0_t1 : Fin k0_t1_loop.trips) : Fin 5 → Nat :=
  let c0_464 : Index := 0#32
  let c5_465 : Index := 5#32
  let c0_i32_13 : BitVec 32 := 0#32
  let c0_i32_9 : BitVec 32 := 0#32
  let c1_i32_10 : BitVec 32 := 1#32
  let arg14 : BitVec 32 := Scf.iv c0_i32_9 c1_i32_10 k0_t1
  let c1_i32_12 : BitVec 32 := 1#32
  let v36 : BitVec 32 := Scalar.muli arg14 c1_i32_12
  let v37 : BitVec 32 := Scalar.addi c0_i32_13 v36
  let v1136 : Index := Scalar.indexCast v37
  let c0_466 : Index := 0#32
  let c0_467 : Index := 0#32
  ![0, 5, v1136.toNat, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x6x6x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x512x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x6x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x6x6x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x6x512x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x6x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S40x6x48x64 : Shape := ⟨4, ![40, 6, 48, 64]⟩
abbrev S40x48x64x128 : Shape := ⟨4, ![40, 48, 64, 128]⟩
abbrev S40x48x64 : Shape := ⟨3, ![40, 48, 64]⟩
abbrev S40x6x1x128 : Shape := ⟨4, ![40, 6, 1, 128]⟩
abbrev S40x6x48 : Shape := ⟨3, ![40, 6, 48]⟩
abbrev S48 : Shape := ⟨1, ![48]⟩
abbrev S40x6x48x64x128 : Shape := ⟨5, ![40, 6, 48, 64, 128]⟩
abbrev S1x1x48 : Shape := ⟨3, ![1, 1, 48]⟩
abbrev S40x6x48x1 : Shape := ⟨4, ![40, 6, 48, 1]⟩
abbrev S48x1 : Shape := ⟨2, ![48, 1]⟩
abbrev S1x1x48x1 : Shape := ⟨4, ![1, 1, 48, 1]⟩
abbrev S40x48x64x1 : Shape := ⟨4, ![40, 48, 64, 1]⟩
abbrev S40x1x48 : Shape := ⟨3, ![40, 1, 48]⟩
abbrev S40x48 : Shape := ⟨2, ![40, 48]⟩
abbrev S40x48x1x1 : Shape := ⟨4, ![40, 48, 1, 1]⟩
abbrev S40x1x48x64 : Shape := ⟨4, ![40, 1, 48, 64]⟩
abbrev S40x1x1x128 : Shape := ⟨4, ![40, 1, 1, 128]⟩
abbrev S40x1x128 : Shape := ⟨3, ![40, 1, 128]⟩
abbrev S40x1x48x64x128 : Shape := ⟨5, ![40, 1, 48, 64, 128]⟩

abbrev nBuf : Space → Nat
  | .hbm => 12
  | .vmem => 12
  | .smem => 0
  | _ => 0

abbrev bufTy : (tb : Table) → Fin (tcTables nBuf tb) → BufTy
  | .hbm, ⟨0, _⟩ => ⟨S40x6x48x64, .bf16⟩
  | .hbm, ⟨1, _⟩ => ⟨S40x48x64x128, .fp8e4m3⟩
  | .hbm, ⟨2, _⟩ => ⟨S40x48x64, .f32⟩
  | .hbm, ⟨3, _⟩ => ⟨S40x6x1x128, .bf16⟩
  | .hbm, ⟨4, _⟩ => ⟨S40x6x1x128, .bf16⟩
  | .hbm, ⟨5, _⟩ => ⟨S40x6x48, .f32⟩
  | .hbm, ⟨6, _⟩ => ⟨S48, .f32⟩
  | .hbm, ⟨7, _⟩ => ⟨S48, .f32⟩
  | .hbm, ⟨8, _⟩ => ⟨S48, .f32⟩
  | .hbm, ⟨9, _⟩ => ⟨S40x6x48x64, .bf16⟩
  | .hbm, ⟨10, _⟩ => ⟨S40x6x48x64x128, .fp8e4m3⟩
  | .hbm, ⟨11, _⟩ => ⟨S40x6x48x64, .f32⟩
  | .local _ .vmem, ⟨0, _⟩ => ⟨S40x6x48x64, .bf16⟩
  | .local _ .vmem, ⟨1, _⟩ => ⟨S40x48x64x128, .fp8e4m3⟩
  | .local _ .vmem, ⟨2, _⟩ => ⟨S40x48x64, .f32⟩
  | .local _ .vmem, ⟨3, _⟩ => ⟨S40x6x1x128, .bf16⟩
  | .local _ .vmem, ⟨4, _⟩ => ⟨S40x6x1x128, .bf16⟩
  | .local _ .vmem, ⟨5, _⟩ => ⟨S40x6x48, .f32⟩
  | .local _ .vmem, ⟨6, _⟩ => ⟨S48, .f32⟩
  | .local _ .vmem, ⟨7, _⟩ => ⟨S48, .f32⟩
  | .local _ .vmem, ⟨8, _⟩ => ⟨S48, .f32⟩
  | .local _ .vmem, ⟨9, _⟩ => ⟨S40x6x48x64, .bf16⟩
  | .local _ .vmem, ⟨10, _⟩ => ⟨S40x6x48x64x128, .fp8e4m3⟩
  | .local _ .vmem, ⟨11, _⟩ => ⟨S40x6x48x64, .f32⟩
  | _, _ => ⟨S40x6x48x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S40x6x48x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x48x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x48x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x6x1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x6x1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x6x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x6x48x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x6x48x64x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x6x48x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.BitsRun.lean ====
module

public import proofs.«01_k».proof.Proof.Gen.Kernel.Frame.Runs

/-!
# The run of the kernel as compiled, with the pieces it leaves named

The loop's pieces (`pb_k0_t1`) are written as functions of what the written buffers hold when the loop starts. They do
not depend on it: each trip stores the scratch buffer before it loads it. `pieces_free` says so, and the run is then
stated with the pieces taken at one fixed content.
-/

@[expose] public section

set_option maxRecDepth 16384

noncomputable section

namespace Cert.BitsRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's pieces do not depend on what the written buffers hold when it starts. -/
theorem trip_free (𝒱 : Variants) (c : Dev nD) (bd : Option 𝒱.V) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k f_arg10 f_arg11 f_arg12 f_arg13 = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k g_arg10 g_arg11 g_arg12 g_arg13 := by
  unfold tripL_k0_t1 trip_k0_t1
  rfl

/-- The loop's pieces do not depend on what the written buffers hold when it starts. -/
theorem pieces_free (𝒱 : Variants) (c : Dev nD) (bd : Option 𝒱.V) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 f_arg10 f_arg11 f_arg12 f_arg13 n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 g_arg10 g_arg11 g_arg12 g_arg13 n := by
  induction n with
  | zero => rfl
  | succ n ih =>
    rw [pb_k0_t1.eq_2, pb_k0_t1.eq_2, ih]
    unfold pb_k0_t1Step
    split
    · rw [trip_free (g_arg10 := arg10.view.writes (Elt F) g_arg10 _) (g_arg11 := arg11.view.writes (Elt F) g_arg11 _)
        (g_arg12 := arg12.view.writes (Elt F) g_arg12 _) (g_arg13 := arg13.view.writes (Elt F) g_arg13 _)]
    · rfl

/-- The pieces the run leaves in the written buffers, the inputs' blocks given. -/
def pieces (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) arg10.view.junk arg11.view.junk arg12.view.junk arg13.view.junk (Scf.trips k0_t1_loop.lb k0_t1_loop.ub k0_t1_loop.st)

/-- The loop's pieces, from whatever the written buffers hold. -/
theorem pieces_eq (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) f_arg10 f_arg11 f_arg12 f_arg13 (Scf.trips k0_t1_loop.lb k0_t1_loop.ub k0_t1_loop.st)
      = pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 :=
  pieces_free ..

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) :
    Σ' (L9 : List (View.Piece (Elt F) S1x6x6x8x128 .f32)), Σ' (L10 : List (View.Piece (Elt F) S1x6x6x512x128 .fp8e4m3)), { L11 : List (View.Piece (Elt F) S1x6x6x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨(pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, (pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, (pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    rw [pieces_eq]
    isplitl [H9]; · iexists _; iexact H9
    isplitl [H10]; · iexists _; iexact H10
    isplitl [H11]; · iexists _; iexact H11
    iexists _, _; isplitr; swap; · iexact HS0
    ipureintro; rfl

end Cert.BitsRun

end
-- ==== Proof.BitsFrame.lean ====
module

public import proofs.«01_k».proof.Proof.BitsRun
public import Idealize.ShloMosaic.Lib.Claim

/-!
# The frame of the kernel as compiled, with what every point of its grid leaves in the outputs

The pipeline's proof data from the run of `BitsRun`, the body's obligation, and the launch: every execution terminates
with the arguments unchanged and with every array at what the proof data say.
-/

@[expose] public section

set_option maxRecDepth 16384

noncomputable section

namespace Cert.BitsRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (36 stores of `S1x1x1x8x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (y : S1x6x6x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 S1x1x1x8x128.size (by sl_kernel_rfl) y

/-- What the run leaves in output 9's staging buffer: its pieces read back over junk. -/
def out0_A_9 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) : Vec F S1x6x6x8x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1)

/-- The run's pieces for output 10 tile its block (36 stores of `S1x1x1x512x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (y : S1x6x6x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 S1x1x1x512x128.size (by sl_kernel_rfl) y

/-- What the run leaves in output 10's staging buffer: its pieces read back over junk. -/
def out0_A_10 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) : Vec F S1x6x6x512x128 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1)

/-- The run's pieces for output 11 tile its block (36 stores of `S1x1x1x8x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (y : S1x6x6x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 S1x1x1x8x128.size (by sl_kernel_rfl) y

/-- What the run leaves in output 11's staging buffer: its pieces read back over junk. -/
def out0_A_11 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) : Vec F S1x6x6x8x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1)

/-! ## What the outputs hold after each point -/

/-- What the outputs' staging buffers hold after the body at point `t` (as a tuple, in window order): the run's contents at
    the point's memrefs and input blocks. -/
def outsAt0 (c : Dev nD) (t : Fin cfg0.N) : Vec F S1x6x6x8x128 .f32 × Vec F S1x6x6x512x128 .fp8e4m3 × Vec F S1x6x6x8x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_9 out0_A_10 out0_A_11; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  iintro ⟨H0, H1, H2, H3, H4, H5, H6, H7, H8, ⟨%e9, H9⟩, ⟨%e10, H10⟩, ⟨%e11, H11⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_Kernel`'s statement (Defs.lean) at any `F` — Proof.lean cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.BitsRun

end
-- ==== Proof.KernelRun.lean ====
module

public import proofs.«01_k».proof.Proof.Gen.KernelIdeal.Frame.Runs

/-!
# The kernel's run, with the pieces it leaves named

The loop's pieces (`pb_k0_t1`) are written as functions of what the written buffers hold when the loop starts. They do
not depend on it: each trip stores the scratch buffer before it loads it. `pieces_free` says so, and the run is then
stated with the pieces taken at one fixed content.
-/

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's pieces do not depend on what the written buffers hold when it starts. -/
theorem trip_free (𝒱 : Variants) (c : Dev nD) (bd : Option 𝒱.V) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k f_arg10 f_arg11 f_arg12 f_arg13 = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k g_arg10 g_arg11 g_arg12 g_arg13 := by
  unfold tripL_k0_t1 trip_k0_t1
  rfl

/-- The loop's pieces do not depend on what the written buffers hold when it starts. -/
theorem pieces_free (𝒱 : Variants) (c : Dev nD) (bd : Option 𝒱.V) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 f_arg10 f_arg11 f_arg12 f_arg13 n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 g_arg10 g_arg11 g_arg12 g_arg13 n := by
  induction n with
  | zero => rfl
  | succ n ih =>
    rw [pb_k0_t1.eq_2, pb_k0_t1.eq_2, ih]
    unfold pb_k0_t1Step
    split
    · rw [trip_free (g_arg10 := arg10.view.writes (Elt F) g_arg10 _) (g_arg11 := arg11.view.writes (Elt F) g_arg11 _)
        (g_arg12 := arg12.view.writes (Elt F) g_arg12 _) (g_arg13 := arg13.view.writes (Elt F) g_arg13 _)]
    · rfl

/-- The pieces the run leaves in the written buffers, the inputs' blocks given. -/
def pieces (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) arg10.view.junk arg11.view.junk arg12.view.junk arg13.view.junk (Scf.trips k0_t1_loop.lb k0_t1_loop.ub k0_t1_loop.st)

/-- The loop's pieces, from whatever the written buffers hold. -/
theorem pieces_eq (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) f_arg10 f_arg11 f_arg12 f_arg13 (Scf.trips k0_t1_loop.lb k0_t1_loop.ub k0_t1_loop.st)
      = pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 :=
  pieces_free ..

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) :
    Σ' (L9 : List (View.Piece (Elt F) S1x6x6x8x128 .f32)), Σ' (L10 : List (View.Piece (Elt F) S1x6x6x512x128 .fp8e4m3)), { L11 : List (View.Piece (Elt F) S1x6x6x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨(pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, (pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, (pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    rw [pieces_eq]
    isplitl [H9]; · iexists _; iexact H9
    isplitl [H10]; · iexists _; iexact H10
    isplitl [H11]; · iexists _; iexact H11
    iexists _, _; isplitr; swap; · iexact HS0
    ipureintro; rfl

end Cert.KernelRun

end
-- ==== Proof.KernelFrame.lean ====
module

public import proofs.«01_k».proof.Proof.KernelRun
public import Idealize.ShloMosaic.Lib.Claim

/-!
# The kernel's frame, with what every point of its grid leaves in the outputs

The pipeline's proof data from the run of `KernelRun`, the body's obligation, and the launch: every execution terminates
with the arguments unchanged and with every array at what the proof data say.
-/

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (36 stores of `S1x1x1x8x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (y : S1x6x6x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 S1x1x1x8x128.size (by sl_kernel_rfl) y

/-- What the run leaves in output 9's staging buffer: its pieces read back over junk. -/
def out0_A_9 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) : Vec F S1x6x6x8x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1)

/-- The run's pieces for output 10 tile its block (36 stores of `S1x1x1x512x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (y : S1x6x6x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 S1x1x1x512x128.size (by sl_kernel_rfl) y

/-- What the run leaves in output 10's staging buffer: its pieces read back over junk. -/
def out0_A_10 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) : Vec F S1x6x6x512x128 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1)

/-- The run's pieces for output 11 tile its block (36 stores of `S1x1x1x8x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) (y : S1x6x6x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 S1x1x1x8x128.size (by sl_kernel_rfl) y

/-- What the run leaves in output 11's staging buffer: its pieces read back over junk. -/
def out0_A_11 (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole)
    (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32) : Vec F S1x6x6x8x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1)

/-! ## What the outputs hold after each point -/

/-- What the outputs' staging buffers hold after the body at point `t` (as a tuple, in window order): the run's contents at
    the point's memrefs and input blocks. -/
def outsAt0 (c : Dev nD) (t : Fin cfg0.N) : Vec F S1x6x6x8x128 .f32 × Vec F S1x6x6x512x128 .fp8e4m3 × Vec F S1x6x6x8x128 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_9 out0_A_10 out0_A_11; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  iintro ⟨H0, H1, H2, H3, H4, H5, H6, H7, H8, ⟨%e9, H9⟩, ⟨%e10, H10⟩, ⟨%e11, H11⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelRun

end
-- ==== Proof.KernelStep.lean ====
module

public import proofs.«01_k».proof.Proof.KernelRun
public import Idealize.ShloMosaic.Lib.VecWindow

/-!
# One trip of the kernel's loop, as six steps of one function

A trip keeps one group of rows of the state for the whole sequence. `Rows` is what it loads; `Rows.state` the codes and
the scales it holds after each step; `Rows.y`, `Rows.ckpt` and `Rows.osc` what it stores. The printed trip spells the
six steps out with cuts at different places; the lemmas here say that each is the same function.
-/

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-- What a trip loads. -/
structure Rows (F : FTy → Type) [FloatOps F] where
  codes : Vec F S1x1x512x128 .fp8e4m3
  scale : Vec F S1x1x8x128 .f32
  dt : ℕ → Vec F S1x1x1x8x128 .f32
  x : ℕ → Vec F S1x1x1x8x128 .f32
  b : ℕ → Vec F S1x1x1x512 .f32
  c : ℕ → Vec F S1x1x1x512 .f32
  bias : Vec F S1x8x128 .f32
  alog : Vec F S1x8x128 .f32
  skip : Vec F S1x8x128 .f32

/-- The largest magnitude of a row of the state, over the largest code. -/
def absmax (h : FVec F S64x8x128 .f32) : FVec F S8x128 .f32 :=
  have v102 : FVec F S64x8x128 .f32 := absf h
  have v103 : FVec F S8x128 .f32 := multiReduction .maximumf [0] S8x128 v102 0xFF800000#32 reduces_S64x8x128_S8x128 (.inl rfl) rfl
  have v104 : FVec F S8x128 .f32 := dynamicRotate 0 4#32 none v103 rotates_S8x128_d0
  have v105 : FVec F S8x128 .f32 := maximumf v103 v104
  have cst_42 : F .f32 := Scalar.ofBits .f32 0x3B124925#32
  have v106 : FVec F S8x128 .f32 := broadcast S8x128 cst_42
  have v107 : FVec F S8x128 .f32 := mulf v105 v106
  v107

/-- The first comparison of the search for an exponent field. -/
def firstProbe (a : FVec F S8x128 .f32) : IVec S8x128 1 :=
  cmpf .oge a (bitcastToFloat .f32 (muli (addi k0_pay11 (broadcast S8x128 128#32)) (broadcast S8x128 8388608#32)))

/-- The scale's word. -/
def scaleBits (a : FVec F S8x128 .f32) : IVec S8x128 32 :=
  k0_pay17 a (k0_pay14 a k0_pay11 (firstProbe a) k0_pay13) (k0_pay15 a k0_pay11 (firstProbe a) k0_pay13)
    (k0_pay16 a k0_pay11 (firstProbe a) k0_pay13)

/-- The scale of a state. -/
def newScale (h : FVec F S64x8x128 .f32) : FVec F S8x128 .f32 :=
  bitcastToFloat .f32 (scaleBits (absmax h))

/-- The codes of a state. -/
def newCodes (h : FVec F S64x8x128 .f32) : FVec F S512x128 .fp8e4m3 :=
  k0_pay19 (absmax h) (k0_pay14 (absmax h) k0_pay11 (firstProbe (absmax h)) k0_pay13)
    (k0_pay15 (absmax h) k0_pay11 (firstProbe (absmax h)) k0_pay13) (k0_pay16 (absmax h) k0_pay11 (firstProbe (absmax h)) k0_pay13)
    (shapeCast S64x8x128 h shapeCasts_S64x8x128_S64x8x128)

/-- The codes with the rows of a group next to one another. -/
def backTransposed (v : FVec F S512x128 .fp8e4m3) : FVec F S512x128 .fp8e4m3 :=
  shapeCast S512x128 (transpose S128x4x128 [2, 1, 0] (shapeCast S128x4x128 v shapeCasts_S512x128_S128x4x128)
    transposes_S128x4x128_p2_1_0_S128x4x128) shapeCasts_S128x4x128_S512x128

namespace Rows

variable (R : Rows F)

/-- The state after step `t`, before it is quantised. -/
def next (cs : FVec F S512x128 .fp8e4m3 × FVec F S8x128 .f32) (t : ℕ) : FVec F S64x8x128 .f32 :=
  k0_pay8 cs.1 cs.2 (k0_pay5 (R.dt t) R.bias) (k0_pay6 (R.dt t) R.bias R.alog) (R.x t) (R.b t)

/-- The codes and the scales before step `t`. -/
def state : ℕ → FVec F S512x128 .fp8e4m3 × FVec F S8x128 .f32
  | 0 => (k0_pay3 R.codes, k0_pay4 R.scale)
  | t + 1 => (newCodes (R.next (state t) t), newScale (R.next (state t) t))

/-- What step `t` stores of the outputs. -/
def y (t : ℕ) : FVec F S1x1x1x8x128 .f32 :=
  k0_pay23 k0_pay1 (k0_pay7 (R.x t)) (R.state (t + 1)).2 (R.state (t + 1)).1 (R.c t) R.skip

/-- What step `t` stores of the codes. -/
def ckpt (t : ℕ) : FVec F S1x1x1x512x128 .fp8e4m3 :=
  k0_pay21 (backTransposed (R.state (t + 1)).1)

/-- What step `t` stores of the scales. -/
def osc (t : ℕ) : FVec F S1x1x1x8x128 .f32 :=
  k0_pay22 (R.state (t + 1)).2

end Rows

section Trip

variable (arg1 : Memref sig .tc .vmem S1x6x6x8x128 .f32)
  (arg2 : Memref sig .tc .vmem S1x6x512x128 .fp8e4m3)
  (arg3 : Memref sig .tc .vmem S1x6x8x128 .f32)
  (arg4 : Memref sig .tc .vmem S1x6x1x512 .f32)
  (arg5 : Memref sig .tc .vmem S1x6x1x512 .f32)
  (arg6 : Memref sig .tc .vmem S1x6x6x8x128 .f32)
  (arg7 : Memref sig .tc .vmem S6x8x128 .f32)
  (arg8 : Memref sig .tc .vmem S6x8x128 .f32)
  (arg9 : Memref sig .tc .vmem S6x8x128 .f32)
  (arg10 : Memref sig .tc .vmem S1x6x6x8x128 .f32)
  (arg11 : Memref sig .tc .vmem S1x6x6x512x128 .fp8e4m3)
  (arg12 : Memref sig .tc .vmem S1x6x6x8x128 .f32)
  (arg13 : Memref sig .tc .vmem S64x8x128 .f32)
  (X_arg1 : BufTy.Contents (Elt F) arg1.view.ty)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (X_arg9 : BufTy.Contents (Elt F) arg9.view.ty)
  (k : Fin k0_t1_loop.trips)

/-- What trip `k` loads from the buffers' contents. -/
def tripRows : Rows F where
  codes := View.readAt (Elt F) arg2.view (Rect.unit (s := S1x6x512x128) (k0_off1 k) S1x1x512x128.size (k0_off1_inb k)).toLoadRect X_arg2
  scale := View.readAt (Elt F) arg3.view (Rect.unit (s := S1x6x8x128) (k0_off2 k) S1x1x8x128.size (k0_off2_inb k)).toLoadRect X_arg3
  dt := fun t => match t with
    | 0 => View.readAt (Elt F) arg6.view (Rect.unit (s := S1x6x6x8x128) (k0_off3 k) S1x1x1x8x128.size (k0_off3_inb k)).toLoadRect X_arg6
    | 1 => View.readAt (Elt F) arg6.view (Rect.unit (s := S1x6x6x8x128) (k0_off6 k) S1x1x1x8x128.size (k0_off6_inb k)).toLoadRect X_arg6
    | 2 => View.readAt (Elt F) arg6.view (Rect.unit (s := S1x6x6x8x128) (k0_off8 k) S1x1x1x8x128.size (k0_off8_inb k)).toLoadRect X_arg6
    | 3 => View.readAt (Elt F) arg6.view (Rect.unit (s := S1x6x6x8x128) (k0_off10 k) S1x1x1x8x128.size (k0_off10_inb k)).toLoadRect X_arg6
    | 4 => View.readAt (Elt F) arg6.view (Rect.unit (s := S1x6x6x8x128) (k0_off12 k) S1x1x1x8x128.size (k0_off12_inb k)).toLoadRect X_arg6
    | _ => View.readAt (Elt F) arg6.view (Rect.unit (s := S1x6x6x8x128) (k0_off14 k) S1x1x1x8x128.size (k0_off14_inb k)).toLoadRect X_arg6
  x := fun t => match t with
    | 0 => View.readAt (Elt F) arg1.view (Rect.unit (s := S1x6x6x8x128) (k0_off3 k) S1x1x1x8x128.size (k0_off3_inb k)).toLoadRect X_arg1
    | 1 => View.readAt (Elt F) arg1.view (Rect.unit (s := S1x6x6x8x128) (k0_off6 k) S1x1x1x8x128.size (k0_off6_inb k)).toLoadRect X_arg1
    | 2 => View.readAt (Elt F) arg1.view (Rect.unit (s := S1x6x6x8x128) (k0_off8 k) S1x1x1x8x128.size (k0_off8_inb k)).toLoadRect X_arg1
    | 3 => View.readAt (Elt F) arg1.view (Rect.unit (s := S1x6x6x8x128) (k0_off10 k) S1x1x1x8x128.size (k0_off10_inb k)).toLoadRect X_arg1
    | 4 => View.readAt (Elt F) arg1.view (Rect.unit (s := S1x6x6x8x128) (k0_off12 k) S1x1x1x8x128.size (k0_off12_inb k)).toLoadRect X_arg1
    | _ => View.readAt (Elt F) arg1.view (Rect.unit (s := S1x6x6x8x128) (k0_off14 k) S1x1x1x8x128.size (k0_off14_inb k)).toLoadRect X_arg1
  b := fun t => match t with
    | 0 => View.readAt (Elt F) arg4.view (Rect.unit (s := S1x6x1x512) ![0, 0, 0, 0] S1x1x1x512.size inb_S1x6x1x512_S1x1x1x512_0_0_0_0).toLoadRect X_arg4
    | 1 => View.readAt (Elt F) arg4.view (Rect.unit (s := S1x6x1x512) ![0, 1, 0, 0] S1x1x1x512.size inb_S1x6x1x512_S1x1x1x512_0_1_0_0).toLoadRect X_arg4
    | 2 => View.readAt (Elt F) arg4.view (Rect.unit (s := S1x6x1x512) ![0, 2, 0, 0] S1x1x1x512.size inb_S1x6x1x512_S1x1x1x512_0_2_0_0).toLoadRect X_arg4
    | 3 => View.readAt (Elt F) arg4.view (Rect.unit (s := S1x6x1x512) ![0, 3, 0, 0] S1x1x1x512.size inb_S1x6x1x512_S1x1x1x512_0_3_0_0).toLoadRect X_arg4
    | 4 => View.readAt (Elt F) arg4.view (Rect.unit (s := S1x6x1x512) ![0, 4, 0, 0] S1x1x1x512.size inb_S1x6x1x512_S1x1x1x512_0_4_0_0).toLoadRect X_arg4
    | _ => View.readAt (Elt F) arg4.view (Rect.unit (s := S1x6x1x512) ![0, 5, 0, 0] S1x1x1x512.size inb_S1x6x1x512_S1x1x1x512_0_5_0_0).toLoadRect X_arg4
  c := fun t => match t with
    | 0 => View.readAt (Elt F) arg5.view (Rect.unit (s := S1x6x1x512) ![0, 0, 0, 0] S1x1x1x512.size inb_S1x6x1x512_S1x1x1x512_0_0_0_0).toLoadRect X_arg5
    | 1 => View.readAt (Elt F) arg5.view (Rect.unit (s := S1x6x1x512) ![0, 1, 0, 0] S1x1x1x512.size inb_S1x6x1x512_S1x1x1x512_0_1_0_0).toLoadRect X_arg5
    | 2 => View.readAt (Elt F) arg5.view (Rect.unit (s := S1x6x1x512) ![0, 2, 0, 0] S1x1x1x512.size inb_S1x6x1x512_S1x1x1x512_0_2_0_0).toLoadRect X_arg5
    | 3 => View.readAt (Elt F) arg5.view (Rect.unit (s := S1x6x1x512) ![0, 3, 0, 0] S1x1x1x512.size inb_S1x6x1x512_S1x1x1x512_0_3_0_0).toLoadRect X_arg5
    | 4 => View.readAt (Elt F) arg5.view (Rect.unit (s := S1x6x1x512) ![0, 4, 0, 0] S1x1x1x512.size inb_S1x6x1x512_S1x1x1x512_0_4_0_0).toLoadRect X_arg5
    | _ => View.readAt (Elt F) arg5.view (Rect.unit (s := S1x6x1x512) ![0, 5, 0, 0] S1x1x1x512.size inb_S1x6x1x512_S1x1x1x512_0_5_0_0).toLoadRect X_arg5
  bias := View.readAt (Elt F) arg7.view (Rect.unit (s := S6x8x128) (k0_off4 k) S1x8x128.size (k0_off4_inb k)).toLoadRect X_arg7
  alog := View.readAt (Elt F) arg8.view (Rect.unit (s := S6x8x128) (k0_off4 k) S1x8x128.size (k0_off4_inb k)).toLoadRect X_arg8
  skip := View.readAt (Elt F) arg9.view (Rect.unit (s := S6x8x128) (k0_off4 k) S1x8x128.size (k0_off4_inb k)).toLoadRect X_arg9

theorem scale_1 : trip_k0_t1.sl.r_10 arg1 arg2 arg3 arg4 arg6 arg7 arg8 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 1).2 := by
  simp only [trip_k0_t1.sl.r_10, trip_k0_t1.sl.r_9, trip_k0_t1.sl.r_8, trip_k0_t1.sl.r_7, trip_k0_t1.sl.r_6, trip_k0_t1.sl.r_5, trip_k0_t1.sl.r_3, trip_k0_t1.sl.r_2, trip_k0_t1.sl.r_1, trip_k0_t1.sl.r]
  rfl

theorem held_1 : trip_k0_t1.sl.v193 arg1 arg2 arg3 arg4 arg6 arg7 arg8 arg13 X_arg1 X_arg2 X_arg3 X_arg4 X_arg6 X_arg7 X_arg8 k
    = shapeCast S64x8x128 ((tripRows arg1 arg2 arg3 arg4 arg5 arg6 arg7 arg8 arg9 X_arg1 X_arg2 X_arg3 X_arg4 X_arg5 X_arg6 X_arg7 X_arg8 X_arg9 k).next ((tripRows arg1 arg2 arg3 arg4 arg5 arg6 arg7 arg8 arg9 X_arg1 X_arg2 X_arg3 X_arg4 X_arg5 X_arg6 X_arg7 X_arg8 X_arg9 k).state 0) 0) shapeCasts_S64x8x128_S64x8x128 := by
  unfold trip_k0_t1.sl.v193 trip_k0_t1.sl.HW_arg13_1
  refine (View.readCov_full (s := S64x8x128) arg13.view _ _ _ _).trans ?_
  simp only [trip_k0_t1.sl.r_9, trip_k0_t1.sl.r_8, trip_k0_t1.sl.r_7, trip_k0_t1.sl.r_6, trip_k0_t1.sl.r_5, trip_k0_t1.sl.r_3, trip_k0_t1.sl.r_2, trip_k0_t1.sl.r_1, trip_k0_t1.sl.r]
  rfl

theorem codes_1 : trip_k0_t1.sl.r_11 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 1).1 := by
  simp only [trip_k0_t1.sl.r_11, trip_k0_t1.sl.r_9, trip_k0_t1.sl.r_8, trip_k0_t1.sl.r_7, trip_k0_t1.sl.r_6, trip_k0_t1.sl.r_5, trip_k0_t1.sl.r_3, trip_k0_t1.sl.r_2, trip_k0_t1.sl.r_1, trip_k0_t1.sl.r, held_1 arg1 arg2 arg3 arg4 arg5 arg6 arg7 arg8 arg9 arg13 X_arg1 X_arg2 X_arg3 X_arg4 X_arg5 X_arg6 X_arg7 X_arg8 X_arg9 k]
  rfl

theorem scale_2 : trip_k0_t1.sl.r_21 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 2).2 := by
  simp only [trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_13, scale_1 arg1 arg2 arg3 arg4 arg5 arg6 arg7 arg8 arg9 X_arg1 X_arg2 X_arg3 X_arg4 X_arg5 X_arg6 X_arg7 X_arg8 X_arg9 k, codes_1 arg1 arg2 arg3 arg4 arg5 arg6 arg7 arg8 arg9 arg13 X_arg1 X_arg2 X_arg3 X_arg4 X_arg5 X_arg6 X_arg7 X_arg8 X_arg9 k]
  rfl

theorem held_2 : trip_k0_t1.sl.v379 arg1 arg2 arg3 arg4 arg6 arg7 arg8 arg13 X_arg1 X_arg2 X_arg3 X_arg4 X_arg6 X_arg7 X_arg8 k
    = shapeCast S64x8x128 ((tripRows arg1 arg2 arg3 arg4 arg5 arg6 arg7 arg8 arg9 X_arg1 X_arg2 X_arg3 X_arg4 X_arg5 X_arg6 X_arg7 X_arg8 X_arg9 k).next ((tripRows arg1 arg2 arg3 arg4 arg5 arg6 arg7 arg8 arg9 X_arg1 X_arg2 X_arg3 X_arg4 X_arg5 X_arg6 X_arg7 X_arg8 X_arg9 k).state 1) 1) shapeCasts_S64x8x128_S64x8x128 := by
  unfold trip_k0_t1.sl.v379 trip_k0_t1.sl.HW_arg13_2
  refine (View.readCov_full (s := S64x8x128) arg13.view _ _ _ _).trans ?_
  simp only [trip_k0_t1.sl.r_20, trip_k0_t1.sl.r_19, trip_k0_t1.sl.r_18, trip_k0_t1.sl.r_17, trip_k0_t1.sl.r_16, trip_k0_t1.sl.r_15, trip_k0_t1.sl.r_13, scale_1 arg1 arg2 arg3 arg4 arg5 arg6 arg7 arg8 arg9 X_arg1 X_arg2 X_arg3 X_arg4 X_arg5 X_arg6 X_arg7 X_arg8 X_arg9 k, codes_1 arg1 arg2 arg3 arg4 arg5 arg6 arg7 arg8 arg9 arg13 X_arg1 X_arg2 X_arg3 X_arg4 X_arg5 X_arg6 X_arg7 X_arg8 X_arg9 k]
  rfl

theorem codes_2 : trip_k0_t1.sl.r_22 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 2).1 := by
  simp only [trip_k0_t1.sl.r_22, trip_k0_t1.sl.r_20, trip_k0_t1.sl.r_19, trip_k0_t1.sl.r_18, trip_k0_t1.sl.r_17, trip_k0_t1.sl.r_16, trip_k0_t1.sl.r_15, trip_k0_t1.sl.r_13, scale_1 arg1 arg2 arg3 arg4 arg5 arg6 arg7 arg8 arg9 X_arg1 X_arg2 X_arg3 X_arg4 X_arg5 X_arg6 X_arg7 X_arg8 X_arg9 k, codes_1 arg1 arg2 arg3 arg4 arg5 arg6 arg7 arg8 arg9 arg13 X_arg1 X_arg2 X_arg3 X_arg4 X_arg5 X_arg6 X_arg7 X_arg8 X_arg9 k, held_2 arg1 arg2 arg3 arg4 arg5 arg6 arg7 arg8 arg9 arg13 X_arg1 X_arg2 X_arg3 X_arg4 X_arg5 X_arg6 X_arg7 X_arg8 X_arg9 k]
  rfl

theorem scale_3 : trip_k0_t1.sl.r_32 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 3).2 := by
  simp only [trip_k0_t1.sl.r_32, trip_k0_t1.sl.r_31, trip_k0_t1.sl.r_30, trip_k0_t1.sl.r_29, trip_k0_t1.sl.r_28, trip_k0_t1.sl.r_27, trip_k0_t1.sl.r_25, trip_k0_t1.sl.r_24, scale_2 arg1 arg2 arg3 arg4 arg5 arg6 arg7 arg8 arg9 arg13 X_arg1 X_arg2 X_arg3 X_arg4 X_arg5 X_arg6 X_arg7 X_arg8 X_arg9 k, codes_2 arg1 arg2 arg3 arg4 arg5 arg6 arg7 arg8 arg9 arg13 X_arg1 X_arg2 X_arg3 X_arg4 X_arg5 X_arg6 X_arg7 X_arg8 X_arg9 k]
  rfl

theorem held_3 : trip_k0_t1.sl.v565 arg1 arg2 arg3 arg4 arg6 arg7 arg8 arg13 X_arg1 X_arg2 X_arg3 X_arg4 X_arg6 X_arg7 X_arg8 k
    = shapeCast S64x8x128 ((tripRows arg1 arg2 arg3 arg4 arg5 arg6 arg7 arg8 arg9 X_arg1 X_arg2 X_arg3 X_arg4 X_arg5 X_arg6 X_arg7 X_arg8 X_arg9 k).next ((tripRows arg1 arg2 arg3 arg4 arg5 arg6 arg7 arg8 arg9 X_arg1 X_arg2 X_arg3 X_arg4 X_arg5 X_arg6 X_arg7 X_arg8 X_arg9 k).state 2) 2) shapeCasts_S64x8x128_S64x8x128 := by
  unfold trip_k0_t1.sl.v565 trip_k0_t1.sl.HW_arg13_3
  refine (View.readCov_full (s := S64x8x128) arg13.view _ _ _ _).trans ?_
  simp only [trip_k0_t1.sl.r_31, trip_k0_t1.sl.r_30, trip_k0_t1.sl.r_29, trip_k0_t1.sl.r_28, trip_k0_t1.sl.r_27, trip_k0_t1.sl.r_25, trip_k0_t1.sl.r_24, scale_2 arg1 arg2 arg3 arg4 arg5 arg6 arg7 arg8 arg9 arg13 X_arg1 X_arg2 X_arg3 X_arg4 X_arg5 X_arg6 X_arg7 X_arg8 X_arg9 k, codes_2 arg1 arg2 arg3 arg4 arg5 arg6 arg7 arg8 arg9 arg13 X_arg1 X_arg2 X_arg3 X_arg4 X_arg5 X_arg6 X_arg7 X_arg8 X_arg9 k]
  rfl

theorem codes_3 : trip_k0_t1.sl.r_33 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 3).1 := by
  simp only [trip_k0_t1.sl.r_33, trip_k0_t1.sl.r_31, trip_k0_t1.sl.r_30, trip_k0_t1.sl.r_29, trip_k0_t1.sl.r_28, trip_k0_t1.sl.r_27, trip_k0_t1.sl.r_25, trip_k0_t1.sl.r_24, scale_2 arg1 arg2 arg3 arg4 arg5 arg6 arg7 arg8 arg9 arg13 X_arg1 X_arg2 X_arg3 X_arg4 X_arg5 X_arg6 X_arg7 X_arg8 X_arg9 k, codes_2 arg1 arg2 arg3 arg4 arg5 arg6 arg7 arg8 arg9 arg13 X_arg1 X_arg2 X_arg3 X_arg4 X_arg5 X_arg6 X_arg7 X_arg8 X_arg9 k, held_3 arg1 arg2 arg3 arg4 arg5 arg6 arg7 arg8 arg9 arg13 X_arg1 X_arg2 X_arg3 X_arg4 X_arg5 X_arg6 X_arg7 X_arg8 X_arg9 k]
  rfl

theorem scale_4 : trip_k0_t1.sl.r_43 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 4).2 := by
  simp only [trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_35, scale_3 arg1 arg2 arg3 arg4 arg5 arg6 arg7 arg8 arg9 arg13 X_arg1 X_arg2 X_arg3 X_arg4 X_arg5 X_arg6 X_arg7 X_arg8 X_arg9 k, codes_3 arg1 arg2 arg3 arg4 arg5 arg6 arg7 arg8 arg9 arg13 X_arg1 X_arg2 X_arg3 X_arg4 X_arg5 X_arg6 X_arg7 X_arg8 X_arg9 k]
  rfl

theorem held_4 : trip_k0_t1.sl.v751 arg1 arg2 arg3 arg4 arg6 arg7 arg8 arg13 X_arg1 X_arg2 X_arg3 X_arg4 X_arg6 X_arg7 X_arg8 k
    = shapeCast S64x8x128 ((tripRows arg1 arg2 arg3 arg4 arg5 arg6 arg7 arg8 arg9 X_arg1 X_arg2 X_arg3 X_arg4 X_arg5 X_arg6 X_arg7 X_arg8 X_arg9 k).next ((tripRows arg1 arg2 arg3 arg4 arg5 arg6 arg7 arg8 arg9 X_arg1 X_arg2 X_arg3 X_arg4 X_arg5 X_arg6 X_arg7 X_arg8 X_arg9 k).state 3) 3) shapeCasts_S64x8x128_S64x8x128 := by
  unfold trip_k0_t1.sl.v751 trip_k0_t1.sl.HW_arg13_4
  refine (View.readCov_full (s := S64x8x128) arg13.view _ _ _ _).trans ?_
  simp only [trip_k0_t1.sl.r_42, trip_k0_t1.sl.r_41, trip_k0_t1.sl.r_40, trip_k0_t1.sl.r_39, trip_k0_t1.sl.r_38, trip_k0_t1.sl.r_37, trip_k0_t1.sl.r_35, scale_3 arg1 arg2 arg3 arg4 arg5 arg6 arg7 arg8 arg9 arg13 X_arg1 X_arg2 X_arg3 X_arg4 X_arg5 X_arg6 X_arg7 X_arg8 X_arg9 k, codes_3 arg1 arg2 arg3 arg4 arg5 arg6 arg7 arg8 arg9 arg13 X_arg1 X_arg2 X_arg3 X_arg4 X_arg5 X_arg6 X_arg7 X_arg8 X_arg9 k]
  rfl

theorem codes_4 : trip_k0_t1.sl.r_44 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 4).1 := by
  simp only [trip_k0_t1.sl.r_44, trip_k0_t1.sl.r_42, trip_k0_t1.sl.r_41, trip_k0_t1.sl.r_40, trip_k0_t1.sl.r_39, trip_k0_t1.sl.r_38, trip_k0_t1.sl.r_37, trip_k0_t1.sl.r_35, scale_3 arg1 arg2 arg3 arg4 arg5 arg6 arg7 arg8 arg9 arg13 X_arg1 X_arg2 X_arg3 X_arg4 X_arg5 X_arg6 X_arg7 X_arg8 X_arg9 k, codes_3 arg1 arg2 arg3 arg4 arg5 arg6 arg7 arg8 arg9 arg13 X_arg1 X_arg2 X_arg3 X_arg4 X_arg5 X_arg6 X_arg7 X_arg8 X_arg9 k, held_4 arg1 arg2 arg3 arg4 arg5 arg6 arg7 arg8 arg9 arg13 X_arg1 X_arg2 X_arg3 X_arg4 X_arg5 X_arg6 X_arg7 X_arg8 X_arg9 k]
  rfl

theorem scale_5 : trip_k0_t1.sl.r_54 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 5).2 := by
  simp only [trip_k0_t1.sl.r_54, trip_k0_t1.sl.r_53, trip_k0_t1.sl.r_52, trip_k0_t1.sl.r_51, trip_k0_t1.sl.r_50, trip_k0_t1.sl.r_49, trip_k0_t1.sl.r_47, trip_k0_t1.sl.r_46, scale_4 arg1 arg2 arg3 arg4 arg5 arg6 arg7 arg8 arg9 arg13 X_arg1 X_arg2 X_arg3 X_arg4 X_arg5 X_arg6 X_arg7 X_arg8 X_arg9 k, codes_4 arg1 arg2 arg3 arg4 arg5 arg6 arg7 arg8 arg9 arg13 X_arg1 X_arg2 X_arg3 X_arg4 X_arg5 X_arg6 X_arg7 X_arg8 X_arg9 k]
  rfl

theorem held_5 : trip_k0_t1.sl.v937 arg1 arg2 arg3 arg4 arg6 arg7 arg8 arg13 X_arg1 X_arg2 X_arg3 X_arg4 X_arg6 X_arg7 X_arg8 k
    = shapeCast S64x8x128 ((tripRows arg1 arg2 arg3 arg4 arg5 arg6 arg7 arg8 arg9 X_arg1 X_arg2 X_arg3 X_arg4 X_arg5 X_arg6 X_arg7 X_arg8 X_arg9 k).next ((tripRows arg1 arg2 arg3 arg4 arg5 arg6 arg7 arg8 arg9 X_arg1 X_arg2 X_arg3 X_arg4 X_arg5 X_arg6 X_arg7 X_arg8 X_arg9 k).state 4) 4) shapeCasts_S64x8x128_S64x8x128 := by
  unfold trip_k0_t1.sl.v937 trip_k0_t1.sl.HW_arg13_5
  refine (View.readCov_full (s := S64x8x128) arg13.view _ _ _ _).trans ?_
  simp only [trip_k0_t1.sl.r_53, trip_k0_t1.sl.r_52, trip_k0_t1.sl.r_51, trip_k0_t1.sl.r_50, trip_k0_t1.sl.r_49, trip_k0_t1.sl.r_47, trip_k0_t1.sl.r_46, scale_4 arg1 arg2 arg3 arg4 arg5 arg6 arg7 arg8 arg9 arg13 X_arg1 X_arg2 X_arg3 X_arg4 X_arg5 X_arg6 X_arg7 X_arg8 X_arg9 k, codes_4 arg1 arg2 arg3 arg4 arg5 arg6 arg7 arg8 arg9 arg13 X_arg1 X_arg2 X_arg3 X_arg4 X_arg5 X_arg6 X_arg7 X_arg8 X_arg9 k]
  rfl

theorem codes_5 : trip_k0_t1.sl.r_55 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 5).1 := by
  simp only [trip_k0_t1.sl.r_55, trip_k0_t1.sl.r_53, trip_k0_t1.sl.r_52, trip_k0_t1.sl.r_51, trip_k0_t1.sl.r_50, trip_k0_t1.sl.r_49, trip_k0_t1.sl.r_47, trip_k0_t1.sl.r_46, scale_4 arg1 arg2 arg3 arg4 arg5 arg6 arg7 arg8 arg9 arg13 X_arg1 X_arg2 X_arg3 X_arg4 X_arg5 X_arg6 X_arg7 X_arg8 X_arg9 k, codes_4 arg1 arg2 arg3 arg4 arg5 arg6 arg7 arg8 arg9 arg13 X_arg1 X_arg2 X_arg3 X_arg4 X_arg5 X_arg6 X_arg7 X_arg8 X_arg9 k, held_5 arg1 arg2 arg3 arg4 arg5 arg6 arg7 arg8 arg9 arg13 X_arg1 X_arg2 X_arg3 X_arg4 X_arg5 X_arg6 X_arg7 X_arg8 X_arg9 k]
  rfl

theorem scale_6 : trip_k0_t1.sl.r_65 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 6).2 := by
  simp only [trip_k0_t1.sl.r_65, trip_k0_t1.sl.r_64, trip_k0_t1.sl.r_63, trip_k0_t1.sl.r_62, trip_k0_t1.sl.r_61, trip_k0_t1.sl.r_60, trip_k0_t1.sl.r_59, trip_k0_t1.sl.r_57, scale_5 arg1 arg2 arg3 arg4 arg5 arg6 arg7 arg8 arg9 arg13 X_arg1 X_arg2 X_arg3 X_arg4 X_arg5 X_arg6 X_arg7 X_arg8 X_arg9 k, codes_5 arg1 arg2 arg3 arg4 arg5 arg6 arg7 arg8 arg9 arg13 X_arg1 X_arg2 X_arg3 X_arg4 X_arg5 X_arg6 X_arg7 X_arg8 X_arg9 k]
  rfl

theorem held_6 : trip_k0_t1.sl.v1123 arg1 arg2 arg3 arg4 arg6 arg7 arg8 arg13 X_arg1 X_arg2 X_arg3 X_arg4 X_arg6 X_arg7 X_arg8 k
    = shapeCast S64x8x128 ((tripRows arg1 arg2 arg3 arg4 arg5 arg6 arg7 arg8 arg9 X_arg1 X_arg2 X_arg3 X_arg4 X_arg5 X_arg6 X_arg7 X_arg8 X_arg9 k).next ((tripRows arg1 arg2 arg3 arg4 arg5 arg6 arg7 arg8 arg9 X_arg1 X_arg2 X_arg3 X_arg4 X_arg5 X_arg6 X_arg7 X_arg8 X_arg9 k).state 5) 5) shapeCasts_S64x8x128_S64x8x128 := by
  unfold trip_k0_t1.sl.v1123 trip_k0_t1.sl.HW_arg13_6
  refine (View.readCov_full (s := S64x8x128) arg13.view _ _ _ _).trans ?_
  simp only [trip_k0_t1.sl.r_64, trip_k0_t1.sl.r_63, trip_k0_t1.sl.r_62, trip_k0_t1.sl.r_61, trip_k0_t1.sl.r_60, trip_k0_t1.sl.r_59, trip_k0_t1.sl.r_57, scale_5 arg1 arg2 arg3 arg4 arg5 arg6 arg7 arg8 arg9 arg13 X_arg1 X_arg2 X_arg3 X_arg4 X_arg5 X_arg6 X_arg7 X_arg8 X_arg9 k, codes_5 arg1 arg2 arg3 arg4 arg5 arg6 arg7 arg8 arg9 arg13 X_arg1 X_arg2 X_arg3 X_arg4 X_arg5 X_arg6 X_arg7 X_arg8 X_arg9 k]
  rfl

theorem codes_6 : trip_k0_t1.sl.r_66 arg1 arg2 arg3 arg4 arg6 arg7 arg8 arg13 X_arg1 X_arg2 X_arg3 X_arg4 X_arg6 X_arg7 X_arg8 k
    = ((tripRows arg1 arg2 arg3 arg4 arg5 arg6 arg7 arg8 arg9 X_arg1 X_arg2 X_arg3 X_arg4 X_arg5 X_arg6 X_arg7 X_arg8 X_arg9 k).state 6).1 := by
  simp only [trip_k0_t1.sl.r_66, trip_k0_t1.sl.r_64, trip_k0_t1.sl.r_63, trip_k0_t1.sl.r_62, trip_k0_t1.sl.r_61, trip_k0_t1.sl.r_60, trip_k0_t1.sl.r_59, trip_k0_t1.sl.r_57, scale_5 arg1 arg2 arg3 arg4 arg5 arg6 arg7 arg8 arg9 arg13 X_arg1 X_arg2 X_arg3 X_arg4 X_arg5 X_arg6 X_arg7 X_arg8 X_arg9 k, codes_5 arg1 arg2 arg3 arg4 arg5 arg6 arg7 arg8 arg9 arg13 X_arg1 X_arg2 X_arg3 X_arg4 X_arg5 X_arg6 X_arg7 X_arg8 X_arg9 k, held_6 arg1 arg2 arg3 arg4 arg5 arg6 arg7 arg8 arg9 arg13 X_arg1 X_arg2 X_arg3 X_arg4 X_arg5 X_arg6 X_arg7 X_arg8 X_arg9 k]
  rfl

/-- What a trip stores of the outputs. -/
theorem trip_y (𝒱 : Variants) (c : Dev nD) (bd : Option 𝒱.V) (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k).1 f_arg10 f_arg11 f_arg12 f_arg13
      = [⟨Rect.unit (k0_off14 k) S1x1x1x8x128.size (k0_off14_inb k), (tripRows arg1 arg2 arg3 arg4 arg5 arg6 arg7 arg8 arg9 X_arg1 X_arg2 X_arg3 X_arg4 X_arg5 X_arg6 X_arg7 X_arg8 X_arg9 k).y 5⟩,
        ⟨Rect.unit (k0_off12 k) S1x1x1x8x128.size (k0_off12_inb k), (tripRows arg1 arg2 arg3 arg4 arg5 arg6 arg7 arg8 arg9 X_arg1 X_arg2 X_arg3 X_arg4 X_arg5 X_arg6 X_arg7 X_arg8 X_arg9 k).y 4⟩,
        ⟨Rect.unit (k0_off10 k) S1x1x1x8x128.size (k0_off10_inb k), (tripRows arg1 arg2 arg3 arg4 arg5 arg6 arg7 arg8 arg9 X_arg1 X_arg2 X_arg3 X_arg4 X_arg5 X_arg6 X_arg7 X_arg8 X_arg9 k).y 3⟩,
        ⟨Rect.unit (k0_off8 k) S1x1x1x8x128.size (k0_off8_inb k), (tripRows arg1 arg2 arg3 arg4 arg5 arg6 arg7 arg8 arg9 X_arg1 X_arg2 X_arg3 X_arg4 X_arg5 X_arg6 X_arg7 X_arg8 X_arg9 k).y 2⟩,
        ⟨Rect.unit (k0_off6 k) S1x1x1x8x128.size (k0_off6_inb k), (tripRows arg1 arg2 arg3 arg4 arg5 arg6 arg7 arg8 arg9 X_arg1 X_arg2 X_arg3 X_arg4 X_arg5 X_arg6 X_arg7 X_arg8 X_arg9 k).y 1⟩,
        ⟨Rect.unit (k0_off3 k) S1x1x1x8x128.size (k0_off3_inb k), (tripRows arg1 arg2 arg3 arg4 arg5 arg6 arg7 arg8 arg9 X_arg1 X_arg2 X_arg3 X_arg4 X_arg5 X_arg6 X_arg7 X_arg8 X_arg9 k).y 0⟩] := by
  unfold trip_k0_t1
  simp only [trip_k0_t1.sl.r_4, trip_k0_t1.sl.r_14, trip_k0_t1.sl.r_26, trip_k0_t1.sl.r_36, trip_k0_t1.sl.r_48, trip_k0_t1.sl.r_58, trip_k0_t1.sl.r_23, trip_k0_t1.sl.r_45, trip_k0_t1.sl.r_67, scale_1 arg1 arg2 arg3 arg4 arg5 arg6 arg7 arg8 arg9 X_arg1 X_arg2 X_arg3 X_arg4 X_arg5 X_arg6 X_arg7 X_arg8 X_arg9 k, scale_2 arg1 arg2 arg3 arg4 arg5 arg6 arg7 arg8 arg9 arg13 X_arg1 X_arg2 X_arg3 X_arg4 X_arg5 X_arg6 X_arg7 X_arg8 X_arg9 k, scale_3 arg1 arg2 arg3 arg4 arg5 arg6 arg7 arg8 arg9 arg13 X_arg1 X_arg2 X_arg3 X_arg4 X_arg5 X_arg6 X_arg7 X_arg8 X_arg9 k, scale_4 arg1 arg2 arg3 arg4 arg5 arg6 arg7 arg8 arg9 arg13 X_arg1 X_arg2 X_arg3 X_arg4 X_arg5 X_arg6 X_arg7 X_arg8 X_arg9 k, scale_5 arg1 arg2 arg3 arg4 arg5 arg6 arg7 arg8 arg9 arg13 X_arg1 X_arg2 X_arg3 X_arg4 X_arg5 X_arg6 X_arg7 X_arg8 X_arg9 k, scale_6 arg1 arg2 arg3 arg4 arg5 arg6 arg7 arg8 arg9 arg13 X_arg1 X_arg2 X_arg3 X_arg4 X_arg5 X_arg6 X_arg7 X_arg8 X_arg9 k, codes_1 arg1 arg2 arg3 arg4 arg5 arg6 arg7 arg8 arg9 arg13 X_arg1 X_arg2 X_arg3 X_arg4 X_arg5 X_arg6 X_arg7 X_arg8 X_arg9 k, codes_2 arg1 arg2 arg3 arg4 arg5 arg6 arg7 arg8 arg9 arg13 X_arg1 X_arg2 X_arg3 X_arg4 X_arg5 X_arg6 X_arg7 X_arg8 X_arg9 k, codes_3 arg1 arg2 arg3 arg4 arg5 arg6 arg7 arg8 arg9 arg13 X_arg1 X_arg2 X_arg3 X_arg4 X_arg5 X_arg6 X_arg7 X_arg8 X_arg9 k, codes_4 arg1 arg2 arg3 arg4 arg5 arg6 arg7 arg8 arg9 arg13 X_arg1 X_arg2 X_arg3 X_arg4 X_arg5 X_arg6 X_arg7 X_arg8 X_arg9 k, codes_5 arg1 arg2 arg3 arg4 arg5 arg6 arg7 arg8 arg9 arg13 X_arg1 X_arg2 X_arg3 X_arg4 X_arg5 X_arg6 X_arg7 X_arg8 X_arg9 k, codes_6 arg1 arg2 arg3 arg4 arg5 arg6 arg7 arg8 arg9 arg13 X_arg1 X_arg2 X_arg3 X_arg4 X_arg5 X_arg6 X_arg7 X_arg8 X_arg9 k]
  rfl

/-- What a trip stores of the codes. -/
theorem trip_ckpt (𝒱 : Variants) (c : Dev nD) (bd : Option 𝒱.V) (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k).2.1 f_arg10 f_arg11 f_arg12 f_arg13
      = [⟨Rect.unit (k0_off15 k) S1x1x1x512x128.size (k0_off15_inb k), (tripRows arg1 arg2 arg3 arg4 arg5 arg6 arg7 arg8 arg9 X_arg1 X_arg2 X_arg3 X_arg4 X_arg5 X_arg6 X_arg7 X_arg8 X_arg9 k).ckpt 5⟩,
        ⟨Rect.unit (k0_off13 k) S1x1x1x512x128.size (k0_off13_inb k), (tripRows arg1 arg2 arg3 arg4 arg5 arg6 arg7 arg8 arg9 X_arg1 X_arg2 X_arg3 X_arg4 X_arg5 X_arg6 X_arg7 X_arg8 X_arg9 k).ckpt 4⟩,
        ⟨Rect.unit (k0_off11 k) S1x1x1x512x128.size (k0_off11_inb k), (tripRows arg1 arg2 arg3 arg4 arg5 arg6 arg7 arg8 arg9 X_arg1 X_arg2 X_arg3 X_arg4 X_arg5 X_arg6 X_arg7 X_arg8 X_arg9 k).ckpt 3⟩,
        ⟨Rect.unit (k0_off9 k) S1x1x1x512x128.size (k0_off9_inb k), (tripRows arg1 arg2 arg3 arg4 arg5 arg6 arg7 arg8 arg9 X_arg1 X_arg2 X_arg3 X_arg4 X_arg5 X_arg6 X_arg7 X_arg8 X_arg9 k).ckpt 2⟩,
        ⟨Rect.unit (k0_off7 k) S1x1x1x512x128.size (k0_off7_inb k), (tripRows arg1 arg2 arg3 arg4 arg5 arg6 arg7 arg8 arg9 X_arg1 X_arg2 X_arg3 X_arg4 X_arg5 X_arg6 X_arg7 X_arg8 X_arg9 k).ckpt 1⟩,
        ⟨Rect.unit (k0_off5 k) S1x1x1x512x128.size (k0_off5_inb k), (tripRows arg1 arg2 arg3 arg4 arg5 arg6 arg7 arg8 arg9 X_arg1 X_arg2 X_arg3 X_arg4 X_arg5 X_arg6 X_arg7 X_arg8 X_arg9 k).ckpt 0⟩] := by
  unfold trip_k0_t1
  simp only [trip_k0_t1.sl.r_12, trip_k0_t1.sl.r_34, trip_k0_t1.sl.r_56, trip_k0_t1.sl.r_9, trip_k0_t1.sl.r_8, trip_k0_t1.sl.r_7, trip_k0_t1.sl.r_6, trip_k0_t1.sl.r_5, trip_k0_t1.sl.r_3, trip_k0_t1.sl.r_2, trip_k0_t1.sl.r_1, trip_k0_t1.sl.r, trip_k0_t1.sl.r_20, trip_k0_t1.sl.r_19, trip_k0_t1.sl.r_18, trip_k0_t1.sl.r_17, trip_k0_t1.sl.r_16, trip_k0_t1.sl.r_15, trip_k0_t1.sl.r_13, trip_k0_t1.sl.r_31, trip_k0_t1.sl.r_30, trip_k0_t1.sl.r_29, trip_k0_t1.sl.r_28, trip_k0_t1.sl.r_27, trip_k0_t1.sl.r_25, trip_k0_t1.sl.r_24, trip_k0_t1.sl.r_42, trip_k0_t1.sl.r_41, trip_k0_t1.sl.r_40, trip_k0_t1.sl.r_39, trip_k0_t1.sl.r_38, trip_k0_t1.sl.r_37, trip_k0_t1.sl.r_35, trip_k0_t1.sl.r_53, trip_k0_t1.sl.r_52, trip_k0_t1.sl.r_51, trip_k0_t1.sl.r_50, trip_k0_t1.sl.r_49, trip_k0_t1.sl.r_47, trip_k0_t1.sl.r_46, trip_k0_t1.sl.r_64, trip_k0_t1.sl.r_63, trip_k0_t1.sl.r_62, trip_k0_t1.sl.r_61, trip_k0_t1.sl.r_60, trip_k0_t1.sl.r_59, trip_k0_t1.sl.r_57, scale_1 arg1 arg2 arg3 arg4 arg5 arg6 arg7 arg8 arg9 X_arg1 X_arg2 X_arg3 X_arg4 X_arg5 X_arg6 X_arg7 X_arg8 X_arg9 k, scale_2 arg1 arg2 arg3 arg4 arg5 arg6 arg7 arg8 arg9 arg13 X_arg1 X_arg2 X_arg3 X_arg4 X_arg5 X_arg6 X_arg7 X_arg8 X_arg9 k, scale_3 arg1 arg2 arg3 arg4 arg5 arg6 arg7 arg8 arg9 arg13 X_arg1 X_arg2 X_arg3 X_arg4 X_arg5 X_arg6 X_arg7 X_arg8 X_arg9 k, scale_4 arg1 arg2 arg3 arg4 arg5 arg6 arg7 arg8 arg9 arg13 X_arg1 X_arg2 X_arg3 X_arg4 X_arg5 X_arg6 X_arg7 X_arg8 X_arg9 k, scale_5 arg1 arg2 arg3 arg4 arg5 arg6 arg7 arg8 arg9 arg13 X_arg1 X_arg2 X_arg3 X_arg4 X_arg5 X_arg6 X_arg7 X_arg8 X_arg9 k, scale_6 arg1 arg2 arg3 arg4 arg5 arg6 arg7 arg8 arg9 arg13 X_arg1 X_arg2 X_arg3 X_arg4 X_arg5 X_arg6 X_arg7 X_arg8 X_arg9 k, codes_1 arg1 arg2 arg3 arg4 arg5 arg6 arg7 arg8 arg9 arg13 X_arg1 X_arg2 X_arg3 X_arg4 X_arg5 X_arg6 X_arg7 X_arg8 X_arg9 k, codes_2 arg1 arg2 arg3 arg4 arg5 arg6 arg7 arg8 arg9 arg13 X_arg1 X_arg2 X_arg3 X_arg4 X_arg5 X_arg6 X_arg7 X_arg8 X_arg9 k, codes_3 arg1 arg2 arg3 arg4 arg5 arg6 arg7 arg8 arg9 arg13 X_arg1 X_arg2 X_arg3 X_arg4 X_arg5 X_arg6 X_arg7 X_arg8 X_arg9 k, codes_4 arg1 arg2 arg3 arg4 arg5 arg6 arg7 arg8 arg9 arg13 X_arg1 X_arg2 X_arg3 X_arg4 X_arg5 X_arg6 X_arg7 X_arg8 X_arg9 k, codes_5 arg1 arg2 arg3 arg4 arg5 arg6 arg7 arg8 arg9 arg13 X_arg1 X_arg2 X_arg3 X_arg4 X_arg5 X_arg6 X_arg7 X_arg8 X_arg9 k, codes_6 arg1 arg2 arg3 arg4 arg5 arg6 arg7 arg8 arg9 arg13 X_arg1 X_arg2 X_arg3 X_arg4 X_arg5 X_arg6 X_arg7 X_arg8 X_arg9 k, held_1 arg1 arg2 arg3 arg4 arg5 arg6 arg7 arg8 arg9 arg13 X_arg1 X_arg2 X_arg3 X_arg4 X_arg5 X_arg6 X_arg7 X_arg8 X_arg9 k, held_2 arg1 arg2 arg3 arg4 arg5 arg6 arg7 arg8 arg9 arg13 X_arg1 X_arg2 X_arg3 X_arg4 X_arg5 X_arg6 X_arg7 X_arg8 X_arg9 k, held_3 arg1 arg2 arg3 arg4 arg5 arg6 arg7 arg8 arg9 arg13 X_arg1 X_arg2 X_arg3 X_arg4 X_arg5 X_arg6 X_arg7 X_arg8 X_arg9 k, held_4 arg1 arg2 arg3 arg4 arg5 arg6 arg7 arg8 arg9 arg13 X_arg1 X_arg2 X_arg3 X_arg4 X_arg5 X_arg6 X_arg7 X_arg8 X_arg9 k, held_5 arg1 arg2 arg3 arg4 arg5 arg6 arg7 arg8 arg9 arg13 X_arg1 X_arg2 X_arg3 X_arg4 X_arg5 X_arg6 X_arg7 X_arg8 X_arg9 k, held_6 arg1 arg2 arg3 arg4 arg5 arg6 arg7 arg8 arg9 arg13 X_arg1 X_arg2 X_arg3 X_arg4 X_arg5 X_arg6 X_arg7 X_arg8 X_arg9 k]
  rfl

/-- What a trip stores of the scales. -/
theorem trip_osc (𝒱 : Variants) (c : Dev nD) (bd : Option 𝒱.V) (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 X_arg3 X_arg4 X_arg5 X_arg6 X_arg7 X_arg8 X_arg9 k).2.2.1 f_arg10 f_arg11 f_arg12 f_arg13
      = [⟨Rect.unit (k0_off14 k) S1x1x1x8x128.size (k0_off14_inb k), (tripRows arg1 arg2 arg3 arg4 arg5 arg6 arg7 arg8 arg9 X_arg1 X_arg2 X_arg3 X_arg4 X_arg5 X_arg6 X_arg7 X_arg8 X_arg9 k).osc 5⟩,
        ⟨Rect.unit (k0_off12 k) S1x1x1x8x128.size (k0_off12_inb k), (tripRows arg1 arg2 arg3 arg4 arg5 arg6 arg7 arg8 arg9 X_arg1 X_arg2 X_arg3 X_arg4 X_arg5 X_arg6 X_arg7 X_arg8 X_arg9 k).osc 4⟩,
        ⟨Rect.unit (k0_off10 k) S1x1x1x8x128.size (k0_off10_inb k), (tripRows arg1 arg2 arg3 arg4 arg5 arg6 arg7 arg8 arg9 X_arg1 X_arg2 X_arg3 X_arg4 X_arg5 X_arg6 X_arg7 X_arg8 X_arg9 k).osc 3⟩,
        ⟨Rect.unit (k0_off8 k) S1x1x1x8x128.size (k0_off8_inb k), (tripRows arg1 arg2 arg3 arg4 arg5 arg6 arg7 arg8 arg9 X_arg1 X_arg2 X_arg3 X_arg4 X_arg5 X_arg6 X_arg7 X_arg8 X_arg9 k).osc 2⟩,
        ⟨Rect.unit (k0_off6 k) S1x1x1x8x128.size (k0_off6_inb k), (tripRows arg1 arg2 arg3 arg4 arg5 arg6 arg7 arg8 arg9 X_arg1 X_arg2 X_arg3 X_arg4 X_arg5 X_arg6 X_arg7 X_arg8 X_arg9 k).osc 1⟩,
        ⟨Rect.unit (k0_off3 k) S1x1x1x8x128.size (k0_off3_inb k), (tripRows arg1 arg2 arg3 arg4 arg5 arg6 arg7 arg8 arg9 X_arg1 X_arg2 X_arg3 X_arg4 X_arg5 X_arg6 X_arg7 X_arg8 X_arg9 k).osc 0⟩] := by
  unfold trip_k0_t1
  simp only [trip_k0_t1.sl.r_9, trip_k0_t1.sl.r_8, trip_k0_t1.sl.r_7, trip_k0_t1.sl.r_6, trip_k0_t1.sl.r_5, trip_k0_t1.sl.r_3, trip_k0_t1.sl.r_2, trip_k0_t1.sl.r_1, trip_k0_t1.sl.r, trip_k0_t1.sl.r_20, trip_k0_t1.sl.r_19, trip_k0_t1.sl.r_18, trip_k0_t1.sl.r_17, trip_k0_t1.sl.r_16, trip_k0_t1.sl.r_15, trip_k0_t1.sl.r_13, trip_k0_t1.sl.r_31, trip_k0_t1.sl.r_30, trip_k0_t1.sl.r_29, trip_k0_t1.sl.r_28, trip_k0_t1.sl.r_27, trip_k0_t1.sl.r_25, trip_k0_t1.sl.r_24, trip_k0_t1.sl.r_42, trip_k0_t1.sl.r_41, trip_k0_t1.sl.r_40, trip_k0_t1.sl.r_39, trip_k0_t1.sl.r_38, trip_k0_t1.sl.r_37, trip_k0_t1.sl.r_35, trip_k0_t1.sl.r_53, trip_k0_t1.sl.r_52, trip_k0_t1.sl.r_51, trip_k0_t1.sl.r_50, trip_k0_t1.sl.r_49, trip_k0_t1.sl.r_47, trip_k0_t1.sl.r_46, trip_k0_t1.sl.r_64, trip_k0_t1.sl.r_63, trip_k0_t1.sl.r_62, trip_k0_t1.sl.r_61, trip_k0_t1.sl.r_60, trip_k0_t1.sl.r_59, trip_k0_t1.sl.r_57, scale_1 arg1 arg2 arg3 arg4 arg5 arg6 arg7 arg8 arg9 X_arg1 X_arg2 X_arg3 X_arg4 X_arg5 X_arg6 X_arg7 X_arg8 X_arg9 k, scale_2 arg1 arg2 arg3 arg4 arg5 arg6 arg7 arg8 arg9 arg13 X_arg1 X_arg2 X_arg3 X_arg4 X_arg5 X_arg6 X_arg7 X_arg8 X_arg9 k, scale_3 arg1 arg2 arg3 arg4 arg5 arg6 arg7 arg8 arg9 arg13 X_arg1 X_arg2 X_arg3 X_arg4 X_arg5 X_arg6 X_arg7 X_arg8 X_arg9 k, scale_4 arg1 arg2 arg3 arg4 arg5 arg6 arg7 arg8 arg9 arg13 X_arg1 X_arg2 X_arg3 X_arg4 X_arg5 X_arg6 X_arg7 X_arg8 X_arg9 k, scale_5 arg1 arg2 arg3 arg4 arg5 arg6 arg7 arg8 arg9 arg13 X_arg1 X_arg2 X_arg3 X_arg4 X_arg5 X_arg6 X_arg7 X_arg8 X_arg9 k, scale_6 arg1 arg2 arg3 arg4 arg5 arg6 arg7 arg8 arg9 arg13 X_arg1 X_arg2 X_arg3 X_arg4 X_arg5 X_arg6 X_arg7 X_arg8 X_arg9 k, codes_1 arg1 arg2 arg3 arg4 arg5 arg6 arg7 arg8 arg9 arg13 X_arg1 X_arg2 X_arg3 X_arg4 X_arg5 X_arg6 X_arg7 X_arg8 X_arg9 k, codes_2 arg1 arg2 arg3 arg4 arg5 arg6 arg7 arg8 arg9 arg13 X_arg1 X_arg2 X_arg3 X_arg4 X_arg5 X_arg6 X_arg7 X_arg8 X_arg9 k, codes_3 arg1 arg2 arg3 arg4 arg5 arg6 arg7 arg8 arg9 arg13 X_arg1 X_arg2 X_arg3 X_arg4 X_arg5 X_arg6 X_arg7 X_arg8 X_arg9 k, codes_4 arg1 arg2 arg3 arg4 arg5 arg6 arg7 arg8 arg9 arg13 X_arg1 X_arg2 X_arg3 X_arg4 X_arg5 X_arg6 X_arg7 X_arg8 X_arg9 k, codes_5 arg1 arg2 arg3 arg4 arg5 arg6 arg7 arg8 arg9 arg13 X_arg1 X_arg2 X_arg3 X_arg4 X_arg5 X_arg6 X_arg7 X_arg8 X_arg9 k, codes_6 arg1 arg2 arg3 arg4 arg5 arg6 arg7 arg8 arg9 arg13 X_arg1 X_arg2 X_arg3 X_arg4 X_arg5 X_arg6 X_arg7 X_arg8 X_arg9 k]
  rfl

end Trip

end Cert.KernelRun

end
-- ==== Proof.KernelBlock.lean ====
module

public import proofs.«01_k».proof.Proof.KernelFrame
public import proofs.«01_k».proof.Proof.KernelStep
public import Idealize.ShloMosaic.Lib.Pointwise
public import Idealize.ShloMosaic.Lib.Pipeline.ValueKit

/-!
# What a point of the kernel's grid leaves in its outputs

A point runs six trips, one for each group of 512 rows of the state, and each trip stores one piece for each step. Every
piece is a piece of one function of the blocks the point loads; the pieces cover the outputs' blocks.
-/

@[expose] public section

set_option maxRecDepth 16384

noncomputable section

namespace Cert.KernelRun

open Cert.KernelIdeal Cert.KernelIdeal.Gen
open Idealize.ShloMosaic Idealize.ShloMosaic.TcCoe Idealize.ShloMosaic.Tactic

variable {F : FTy → Type} [FloatOps F]

/-- A step of the sequence; past the last one, the last. -/
def stepAt (t : ℕ) : Fin 6 := ⟨min t 5, by omega⟩

theorem last (t : ℕ) : stepAt (t + 5) = 5 := Fin.ext (by show min (t + 5) 5 = 5; omega)

section Block

variable (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32)

/-- What trip `k` loads, out of the blocks of a point. -/
def blockRows (k : Fin 6) : Rows F where
  codes := fun j => x1 (ix4 0 k (j 2) (j 3))
  scale := fun j => x2 (ix4 0 k (j 2) (j 3))
  dt := fun t j => x5 (ix5 0 (stepAt t) k (j 3) (j 4))
  x := fun t j => x0 (ix5 0 (stepAt t) k (j 3) (j 4))
  b := fun t j => x3 (ix4 0 (stepAt t) 0 (j 3))
  c := fun t j => x4 (ix4 0 (stepAt t) 0 (j 3))
  bias := fun j => x6 (ix3 k (j 1) (j 2))
  alog := fun j => x7 (ix3 k (j 1) (j 2))
  skip := fun j => x8 (ix3 k (j 1) (j 2))

/-- The block of the outputs. -/
def blockY (j : S1x6x6x8x128.Idx) : Elt F .f32 := (blockRows x0 x1 x2 x3 x4 x5 x6 x7 x8 (j 2)).y (j 1).val (ix5 0 0 0 (j 3) (j 4))

/-- The block of the codes. -/
def blockCkpt (j : S1x6x6x512x128.Idx) : Elt F .fp8e4m3 := (blockRows x0 x1 x2 x3 x4 x5 x6 x7 x8 (j 2)).ckpt (j 1).val (ix5 0 0 0 (j 3) (j 4))

/-- The block of the scales. -/
def blockOsc (j : S1x6x6x8x128.Idx) : Elt F .f32 := (blockRows x0 x1 x2 x3 x4 x5 x6 x7 x8 (j 2)).osc (j 1).val (ix5 0 0 0 (j 3) (j 4))

end Block

/-! ## Where the trips load and store -/

theorem off1_eq : ∀ k : Fin k0_t1_loop.trips, k0_off1 k = ![0, k.val, 0, 0] := by decide +kernel
theorem off2_eq : ∀ k : Fin k0_t1_loop.trips, k0_off2 k = ![0, k.val, 0, 0] := by decide +kernel
theorem off4_eq : ∀ k : Fin k0_t1_loop.trips, k0_off4 k = ![k.val, 0, 0] := by decide +kernel
theorem off3_eq : ∀ k : Fin k0_t1_loop.trips, k0_off3 k = ![0, 0, k.val, 0, 0] := by decide +kernel
theorem off6_eq : ∀ k : Fin k0_t1_loop.trips, k0_off6 k = ![0, 1, k.val, 0, 0] := by decide +kernel
theorem off8_eq : ∀ k : Fin k0_t1_loop.trips, k0_off8 k = ![0, 2, k.val, 0, 0] := by decide +kernel
theorem off10_eq : ∀ k : Fin k0_t1_loop.trips, k0_off10 k = ![0, 3, k.val, 0, 0] := by decide +kernel
theorem off12_eq : ∀ k : Fin k0_t1_loop.trips, k0_off12 k = ![0, 4, k.val, 0, 0] := by decide +kernel
theorem off14_eq : ∀ k : Fin k0_t1_loop.trips, k0_off14 k = ![0, 5, k.val, 0, 0] := by decide +kernel
theorem off5_eq : ∀ k : Fin k0_t1_loop.trips, k0_off5 k = ![0, 0, k.val, 0, 0] := by decide +kernel
theorem off7_eq : ∀ k : Fin k0_t1_loop.trips, k0_off7 k = ![0, 1, k.val, 0, 0] := by decide +kernel
theorem off9_eq : ∀ k : Fin k0_t1_loop.trips, k0_off9 k = ![0, 2, k.val, 0, 0] := by decide +kernel
theorem off11_eq : ∀ k : Fin k0_t1_loop.trips, k0_off11 k = ![0, 3, k.val, 0, 0] := by decide +kernel
theorem off13_eq : ∀ k : Fin k0_t1_loop.trips, k0_off13 k = ![0, 4, k.val, 0, 0] := by decide +kernel
theorem off15_eq : ∀ k : Fin k0_t1_loop.trips, k0_off15 k = ![0, 5, k.val, 0, 0] := by decide +kernel

theorem trips_eq : k0_t1_loop.trips = 6 := by decide +kernel

/-- A load of a window, at an index. -/
theorem load_at {s : Shape} {φ : EltTy} {κ : Kind} {sp : Space} (m : Memref sig κ sp s φ) (h : m.IsWhole) (X : s.Idx → Elt F φ) (off size : Fin s.rank → ℕ)
    (inb : ∀ a, off a + size a ≤ s.size a) (j : (Rect.unit off size inb).shape.Idx) (i : s.Idx) (hi : ∀ a, (i a : ℕ) = off a + j a) :
    View.readAt (Elt F) m.view (Rect.unit off size inb).toLoadRect (h.unread X) j = X i := by
  rw [View.readAt_unit m.view _ inb rfl inb, h.read_unread]
  exact View.ld_unit_apply_of X off size inb j i hi

/-- The row of step `t` of group `k` in an array of rank five. -/
theorem row5 {n3 n4 : ℕ} {off : Fin 5 → ℕ} {t k : ℕ} (e : off = ![0, t, k, 0, 0]) (ht : t < 6) (hk : k < 6) (j : (⟨5, ![1, 1, 1, n3, n4]⟩ : Shape).Idx) (a : Fin 5) :
    ((ix5 (n0 := 1) (n1 := 6) (n2 := 6) (n3 := n3) (n4 := n4) 0 ⟨t, ht⟩ ⟨k, hk⟩ (j 3) (j 4)) a : ℕ) = off a + j a := by
  subst e
  have h0 : (j 0 : ℕ) < 1 := (j 0).isLt
  have h1 : (j 1 : ℕ) < 1 := (j 1).isLt
  have h2 : (j 2 : ℕ) < 1 := (j 2).isLt
  match a with
  | 0 => show 0 = 0 + (j 0 : ℕ); omega
  | 1 => show t = t + (j 1 : ℕ); omega
  | 2 => show k = k + (j 2 : ℕ); omega
  | 3 => exact (Nat.zero_add _).symm
  | 4 => exact (Nat.zero_add _).symm

/-- A row of an array of rank four whose first two axes are a batch and a group, or a batch and a step. -/
theorem row4 {n n2 n3 : ℕ} {off : Fin 4 → ℕ} {k : ℕ} (e : off = ![0, k, 0, 0]) (hk : k < n) (j : (⟨4, ![1, 1, n2, n3]⟩ : Shape).Idx) (a : Fin 4) :
    ((ix4 (n0 := 1) (n1 := n) (n2 := n2) (n3 := n3) 0 ⟨k, hk⟩ (j 2) (j 3)) a : ℕ) = off a + j a := by
  subst e
  have h0 : (j 0 : ℕ) < 1 := (j 0).isLt
  have h1 : (j 1 : ℕ) < 1 := (j 1).isLt
  match a with
  | 0 => show 0 = 0 + (j 0 : ℕ); omega
  | 1 => show k = k + (j 1 : ℕ); omega
  | 2 => exact (Nat.zero_add _).symm
  | 3 => exact (Nat.zero_add _).symm

/-- A group of an array of rank three. -/
theorem row3 {n n1 n2 : ℕ} {off : Fin 3 → ℕ} {k : ℕ} (e : off = ![k, 0, 0]) (hk : k < n) (j : (⟨3, ![1, n1, n2]⟩ : Shape).Idx) (a : Fin 3) :
    ((ix3 (n0 := n) (n1 := n1) (n2 := n2) ⟨k, hk⟩ (j 1) (j 2)) a : ℕ) = off a + j a := by
  subst e
  have h0 : (j 0 : ℕ) < 1 := (j 0).isLt
  match a with
  | 0 => show k = k + (j 0 : ℕ); omega
  | 1 => exact (Nat.zero_add _).symm
  | 2 => exact (Nat.zero_add _).symm

/-- A step's row of the vectors shared by all rows. -/
theorem row4' {n3 : ℕ} {off : Fin 4 → ℕ} {k : ℕ} (e : off = ![0, k, 0, 0]) (hk : k < 6) (j : (⟨4, ![1, 1, 1, n3]⟩ : Shape).Idx) (a : Fin 4) :
    ((ix4 (n0 := 1) (n1 := 6) (n2 := 1) (n3 := n3) 0 ⟨k, hk⟩ 0 (j 3)) a : ℕ) = off a + j a := by
  rw [← row4 e hk j a]
  have h2 : (j 2 : ℕ) < 1 := (j 2).isLt
  match a with
  | 0 => rfl
  | 1 => rfl
  | 2 => show 0 = (j 2 : ℕ); omega
  | 3 => rfl

section Trip

variable (c : Dev nD) (i : grid0.Coords) (arg1 : Memref sig .tc .vmem S1x6x6x8x128 .f32) (harg1 : arg1.IsWhole) (arg2 : Memref sig .tc .vmem S1x6x512x128 .fp8e4m3) (harg2 : arg2.IsWhole) (arg3 : Memref sig .tc .vmem S1x6x8x128 .f32) (harg3 : arg3.IsWhole) (arg4 : Memref sig .tc .vmem S1x6x1x512 .f32) (harg4 : arg4.IsWhole) (arg5 : Memref sig .tc .vmem S1x6x1x512 .f32) (harg5 : arg5.IsWhole) (arg6 : Memref sig .tc .vmem S1x6x6x8x128 .f32) (harg6 : arg6.IsWhole) (arg7 : Memref sig .tc .vmem S6x8x128 .f32) (harg7 : arg7.IsWhole) (arg8 : Memref sig .tc .vmem S6x8x128 .f32) (harg8 : arg8.IsWhole) (arg9 : Memref sig .tc .vmem S6x8x128 .f32) (harg9 : arg9.IsWhole) (arg10 : Memref sig .tc .vmem S1x6x6x8x128 .f32) (harg10 : arg10.IsWhole) (arg11 : Memref sig .tc .vmem S1x6x6x512x128 .fp8e4m3) (harg11 : arg11.IsWhole) (arg12 : Memref sig .tc .vmem S1x6x6x8x128 .f32) (harg12 : arg12.IsWhole) (arg13 : Memref sig .tc .vmem S64x8x128 .f32) (harg13 : arg13.IsWhole) (x0 : Vec F S1x6x6x8x128 .f32) (x1 : Vec F S1x6x512x128 .fp8e4m3) (x2 : Vec F S1x6x8x128 .f32) (x3 : Vec F S1x6x1x512 .f32) (x4 : Vec F S1x6x1x512 .f32) (x5 : Vec F S1x6x6x8x128 .f32) (x6 : Vec F S6x8x128 .f32) (x7 : Vec F S6x8x128 .f32) (x8 : Vec F S6x8x128 .f32)

/-- What a trip loads, in terms of the blocks. -/
theorem tripRows_eq (k : Fin k0_t1_loop.trips) (hk : k.val < 6) :
    tripRows arg1 arg2 arg3 arg4 arg5 arg6 arg7 arg8 arg9 (harg1.unread x0) (harg2.unread x1) (harg3.unread x2) (harg4.unread x3) (harg5.unread x4) (harg6.unread x5) (harg7.unread x6) (harg8.unread x7) (harg9.unread x8) k = blockRows x0 x1 x2 x3 x4 x5 x6 x7 x8 ⟨k.val, hk⟩ := by
  unfold tripRows blockRows
  congr 1

  · funext j; refine load_at _ _ _ _ _ _ j _ ?_; exact row4 (off1_eq k) hk j
  · funext j; refine load_at _ _ _ _ _ _ j _ ?_; exact row4 (off2_eq k) hk j
  · funext t j
    match t with
    | 0 => dsimp only; apply load_at; exact row5 (off3_eq k) (by decide) hk j
    | 1 => dsimp only; apply load_at; exact row5 (off6_eq k) (by decide) hk j
    | 2 => dsimp only; apply load_at; exact row5 (off8_eq k) (by decide) hk j
    | 3 => dsimp only; apply load_at; exact row5 (off10_eq k) (by decide) hk j
    | 4 => dsimp only; apply load_at; exact row5 (off12_eq k) (by decide) hk j
    | t + 5 => rw [last]; dsimp only; apply load_at; exact row5 (off14_eq k) (by decide) hk j
  · funext t j
    match t with
    | 0 => dsimp only; apply load_at; exact row5 (off3_eq k) (by decide) hk j
    | 1 => dsimp only; apply load_at; exact row5 (off6_eq k) (by decide) hk j
    | 2 => dsimp only; apply load_at; exact row5 (off8_eq k) (by decide) hk j
    | 3 => dsimp only; apply load_at; exact row5 (off10_eq k) (by decide) hk j
    | 4 => dsimp only; apply load_at; exact row5 (off12_eq k) (by decide) hk j
    | t + 5 => rw [last]; dsimp only; apply load_at; exact row5 (off14_eq k) (by decide) hk j
  · funext t j
    match t with
    | 0 => dsimp only; apply load_at; exact row4' (k := 0) rfl (by decide) j
    | 1 => dsimp only; apply load_at; exact row4' (k := 1) rfl (by decide) j
    | 2 => dsimp only; apply load_at; exact row4' (k := 2) rfl (by decide) j
    | 3 => dsimp only; apply load_at; exact row4' (k := 3) rfl (by decide) j
    | 4 => dsimp only; apply load_at; exact row4' (k := 4) rfl (by decide) j
    | t + 5 => rw [last]; dsimp only; apply load_at; exact row4' (k := 5) rfl (by decide) j
  · funext t j
    match t with
    | 0 => dsimp only; apply load_at; exact row4' (k := 0) rfl (by decide) j
    | 1 => dsimp only; apply load_at; exact row4' (k := 1) rfl (by decide) j
    | 2 => dsimp only; apply load_at; exact row4' (k := 2) rfl (by decide) j
    | 3 => dsimp only; apply load_at; exact row4' (k := 3) rfl (by decide) j
    | 4 => dsimp only; apply load_at; exact row4' (k := 4) rfl (by decide) j
    | t + 5 => rw [last]; dsimp only; apply load_at; exact row4' (k := 5) rfl (by decide) j
  · funext j; refine load_at _ _ _ _ _ _ j _ ?_; exact row3 (off4_eq k) hk j
  · funext j; refine load_at _ _ _ _ _ _ j _ ?_; exact row3 (off4_eq k) hk j
  · funext j; refine load_at _ _ _ _ _ _ j _ ?_; exact row3 (off4_eq k) hk j

/-- The pieces of a list are pieces of one function. -/
def PiecesOf {s : Shape} {e : EltTy} (G : s.Idx → Elt F e) (L : List (View.Piece (Elt F) s e)) : Prop :=
  ∀ p ∈ L, ∀ z : p.1.shape.Idx, p.2 z = G (p.1.emb z)

omit [FloatOps F] in
theorem PiecesOf.nil {s : Shape} {e : EltTy} (G : s.Idx → Elt F e) : PiecesOf G [] := fun _ h => absurd h List.not_mem_nil

omit [FloatOps F] in
theorem PiecesOf.cons {s : Shape} {e : EltTy} {G : s.Idx → Elt F e} {p : View.Piece (Elt F) s e} {L : List (View.Piece (Elt F) s e)}
    (hp : ∀ z : p.1.shape.Idx, p.2 z = G (p.1.emb z)) (hL : PiecesOf G L) : PiecesOf G (p :: L) :=
  fun q hq => (List.mem_cons.1 hq).elim (fun h => h ▸ hp) (hL q)

omit [FloatOps F] in
theorem PiecesOf.append {s : Shape} {e : EltTy} {G : s.Idx → Elt F e} {L L' : List (View.Piece (Elt F) s e)}
    (h : PiecesOf G L) (h' : PiecesOf G L') : PiecesOf G (L ++ L') :=
  fun q hq => (List.mem_append.1 hq).elim (h q) (h' q)

omit [FloatOps F] in
/-- A stored row is the row of the function at its step and group. -/
theorem piece5 {n3 n4 : ℕ} {φ : EltTy} (G : (⟨5, ![1, 6, 6, n3, n4]⟩ : Shape).Idx → Elt F φ) (w : (⟨5, ![1, 1, 1, n3, n4]⟩ : Shape).Idx → Elt F φ)
    {off : Fin 5 → ℕ} {t k : ℕ} (e : off = ![0, t, k, 0, 0]) (ht : t < 6) (hk : k < 6)
    (inb : ∀ a, off a + (![1, 1, 1, n3, n4] : Fin 5 → ℕ) a ≤ (![1, 6, 6, n3, n4] : Fin 5 → ℕ) a)
    (h : ∀ j : (⟨5, ![1, 1, 1, n3, n4]⟩ : Shape).Idx, G (ix5 0 ⟨t, ht⟩ ⟨k, hk⟩ (j 3) (j 4)) = w (ix5 0 0 0 (j 3) (j 4)))
    (z : (Rect.unit (s := ⟨5, ![1, 6, 6, n3, n4]⟩) off ![1, 1, 1, n3, n4] inb).shape.Idx) :
    w z = G ((Rect.unit (s := ⟨5, ![1, 6, 6, n3, n4]⟩) off ![1, 1, 1, n3, n4] inb).emb z) := by
  have e1 : (Rect.unit (s := ⟨5, ![1, 6, 6, n3, n4]⟩) off ![1, 1, 1, n3, n4] inb).emb z = ix5 0 ⟨t, ht⟩ ⟨k, hk⟩ (z 3) (z 4) :=
    funext fun a => Fin.ext ((show _ = off a + 1 * (z a : ℕ) from rfl).trans (by rw [one_mul]; exact (row5 e ht hk z a).symm))
  rw [e1]
  refine Eq.trans (congrArg w (funext fun a => ?_)) (h z).symm
  have h0 : (z 0 : ℕ) < 1 := (z 0).isLt
  have h1 : (z 1 : ℕ) < 1 := (z 1).isLt
  have h2 : (z 2 : ℕ) < 1 := (z 2).isLt
  match a with
  | 0 => exact Fin.ext (show (z 0 : ℕ) = 0 by omega)
  | 1 => exact Fin.ext (show (z 1 : ℕ) = 0 by omega)
  | 2 => exact Fin.ext (show (z 2 : ℕ) = 0 by omega)
  | 3 => rfl
  | 4 => rfl

/-- A trip stores pieces of the block of outputs. -/
theorem trip_y_pieces (𝒱 : Variants) (bd : Option 𝒱.V) (k : Fin k0_t1_loop.trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    PiecesOf (blockY x0 x1 x2 x3 x4 x5 x6 x7 x8) ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) k).1 f_arg10 f_arg11 f_arg12 f_arg13) := by
  have hk : k.val < 6 := lt_of_lt_of_eq k.isLt trips_eq
  rw [trip_y (X_arg5 := harg5.unread x4) (X_arg9 := harg9.unread x8), tripRows_eq (hk := hk)]
  refine .cons ?_ (.cons ?_ (.cons ?_ (.cons ?_ (.cons ?_ (.cons ?_ (.nil _))))))
  · exact piece5 _ _ (off14_eq k) (by decide) hk (k0_off14_inb k) fun j => rfl
  · exact piece5 _ _ (off12_eq k) (by decide) hk (k0_off12_inb k) fun j => rfl
  · exact piece5 _ _ (off10_eq k) (by decide) hk (k0_off10_inb k) fun j => rfl
  · exact piece5 _ _ (off8_eq k) (by decide) hk (k0_off8_inb k) fun j => rfl
  · exact piece5 _ _ (off6_eq k) (by decide) hk (k0_off6_inb k) fun j => rfl
  · exact piece5 _ _ (off3_eq k) (by decide) hk (k0_off3_inb k) fun j => rfl

/-- A trip stores pieces of the block of codes. -/
theorem trip_ckpt_pieces (𝒱 : Variants) (bd : Option 𝒱.V) (k : Fin k0_t1_loop.trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    PiecesOf (blockCkpt x0 x1 x2 x3 x4 x5 x6 x7 x8) ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) k).2.1 f_arg10 f_arg11 f_arg12 f_arg13) := by
  have hk : k.val < 6 := lt_of_lt_of_eq k.isLt trips_eq
  rw [trip_ckpt (X_arg5 := harg5.unread x4) (X_arg9 := harg9.unread x8), tripRows_eq (hk := hk)]
  refine .cons ?_ (.cons ?_ (.cons ?_ (.cons ?_ (.cons ?_ (.cons ?_ (.nil _))))))
  · exact piece5 _ _ (off15_eq k) (by decide) hk (k0_off15_inb k) fun j => rfl
  · exact piece5 _ _ (off13_eq k) (by decide) hk (k0_off13_inb k) fun j => rfl
  · exact piece5 _ _ (off11_eq k) (by decide) hk (k0_off11_inb k) fun j => rfl
  · exact piece5 _ _ (off9_eq k) (by decide) hk (k0_off9_inb k) fun j => rfl
  · exact piece5 _ _ (off7_eq k) (by decide) hk (k0_off7_inb k) fun j => rfl
  · exact piece5 _ _ (off5_eq k) (by decide) hk (k0_off5_inb k) fun j => rfl

/-- A trip stores pieces of the block of scales. -/
theorem trip_osc_pieces (𝒱 : Variants) (bd : Option 𝒱.V) (k : Fin k0_t1_loop.trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    PiecesOf (blockOsc x0 x1 x2 x3 x4 x5 x6 x7 x8) ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) k).2.2.1 f_arg10 f_arg11 f_arg12 f_arg13) := by
  have hk : k.val < 6 := lt_of_lt_of_eq k.isLt trips_eq
  rw [trip_osc (X_arg5 := harg5.unread x4) (X_arg9 := harg9.unread x8), tripRows_eq (hk := hk)]
  refine .cons ?_ (.cons ?_ (.cons ?_ (.cons ?_ (.cons ?_ (.cons ?_ (.nil _))))))
  · exact piece5 _ _ (off14_eq k) (by decide) hk (k0_off14_inb k) fun j => rfl
  · exact piece5 _ _ (off12_eq k) (by decide) hk (k0_off12_inb k) fun j => rfl
  · exact piece5 _ _ (off10_eq k) (by decide) hk (k0_off10_inb k) fun j => rfl
  · exact piece5 _ _ (off8_eq k) (by decide) hk (k0_off8_inb k) fun j => rfl
  · exact piece5 _ _ (off6_eq k) (by decide) hk (k0_off6_inb k) fun j => rfl
  · exact piece5 _ _ (off3_eq k) (by decide) hk (k0_off3_inb k) fun j => rfl

/-- All the trips do. -/
theorem loop_pieces (𝒱 : Variants) (bd : Option 𝒱.V) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (n : ℕ) :
    let P := pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 (harg1.unread x0) (harg2.unread x1) (harg3.unread x2) (harg4.unread x3) (harg5.unread x4) (harg6.unread x5) (harg7.unread x6) (harg8.unread x7) (harg9.unread x8) f_arg10 f_arg11 f_arg12 f_arg13 n
    PiecesOf (blockY x0 x1 x2 x3 x4 x5 x6 x7 x8) P.1 ∧ PiecesOf (blockCkpt x0 x1 x2 x3 x4 x5 x6 x7 x8) P.2.1 ∧ PiecesOf (blockOsc x0 x1 x2 x3 x4 x5 x6 x7 x8) P.2.2.1 := by
  induction n with
  | zero => exact ⟨.nil _, .nil _, .nil _⟩
  | succ n ih =>
    dsimp only at ih ⊢
    rw [pb_k0_t1.eq_2]
    unfold pb_k0_t1Step
    split
    · refine ⟨.append ?_ ih.1, .append ?_ ih.2.1, .append ?_ ih.2.2⟩
      · apply trip_y_pieces
      · apply trip_ckpt_pieces
      · apply trip_osc_pieces
    · exact ih

/-- A point leaves the block of outputs. -/
theorem out_y : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = blockY x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  funext y
  exact View.canon_apply_of_pieces _ _ (loop_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 Variants.none none _ _ _ _ _).1 y (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)

/-- A point leaves the block of codes. -/
theorem out_ckpt : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = blockCkpt x0 x1 x2 x3 x4 x5 x6 x7 x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  funext y
  exact View.canon_apply_of_pieces _ _ (loop_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 Variants.none none _ _ _ _ _).2.1 y (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)

/-- A point leaves the block of scales. -/
theorem out_osc : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = blockOsc x0 x1 x2 x3 x4 x5 x6 x7 x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  funext y
  exact View.canon_apply_of_pieces _ _ (loop_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 Variants.none none _ _ _ _ _).2.2 y (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)

end Trip

end Cert.KernelRun

end
-- ==== Proof.Exponent.lean ====
/-
  The power of two a row is scaled by, computed in two ways.

  The kernel finds the exponent field of a positive number `x` by a binary search: the largest `n` in `0 … 255` such
  that the f32 with exponent field `n` and significand zero is at most `x`. The reference takes the floor of the base
  two logarithm. `scale_eq` and `inv_eq` say that the scale and its inverse which the two sides build from these are the
  same extended reals, for every `x`.
-/
module

public import Idealize.ShloMosaic.PureOps.Ideal
public import Idealize.ShloMosaic.PureOps.Ideal.Laws
public import Idealize.ShloMosaic.Lib.IdealHost
public import Mathlib.Analysis.SpecialFunctions.Log.Basic

@[expose] public section

set_option maxRecDepth 16384

noncomputable section

namespace Cert.Exponent

open Idealize.ShloMosaic

/-- The value of the f32 word with exponent field `n` and nothing else set. -/
def field (n : ℕ) : EReal := Ideal.ofBits .f32 (BitVec.ofNat 32 n * 8388608#32)

theorem extract_exponent : ∀ n : Fin 256,
    ((BitVec.ofNat 32 n.val * 8388608#32).extractLsb' 23 8).toNat = n.val
      ∧ ((BitVec.ofNat 32 n.val * 8388608#32).extractLsb' 0 23).toNat = 0
      ∧ ((BitVec.ofNat 32 n.val * 8388608#32).extractLsb' 31 1 == 1#1) = false := by
  decide +kernel

theorem field_top : field 255 = ⊤ := by
  obtain ⟨h₁, h₂, h₃⟩ := extract_exponent 255
  simp only [Fin.isValue, show ((255 : Fin 256).val) = 255 from rfl] at h₁ h₂ h₃
  simp only [field, Ideal.ofBits, Ideal.ieee]
  simp [h₁, h₂, h₃]

theorem field_of_pos {n : ℕ} (h0 : 1 ≤ n) (h1 : n ≤ 254) : field n = (((2 : ℝ) ^ ((n : ℤ) - 127) : ℝ) : EReal) := by
  obtain ⟨h₁, h₂, h₃⟩ := extract_exponent ⟨n, by omega⟩
  simp only at h₁ h₂ h₃
  simp only [field, Ideal.ofBits, Ideal.ieee]
  rw [h₁, h₂, h₃, if_neg (by omega), if_neg (by omega)]
  congr 1
  have h2 : (2 : ℝ) ≠ 0 := by norm_num
  simp only [Bool.false_eq_true, if_false, one_mul, add_zero]
  rw [show (((2 ^ 23 : ℕ)) : ℝ) = (2 : ℝ) ^ (23 : ℤ) by norm_num, ← zpow_add₀ h2]
  congr 1
  push_cast
  ring

/-- One step of the search: add `k` to the field where the word so obtained is still at most `x`. -/
def probe (x : EReal) (k e : BitVec 32) : BitVec 32 :=
  if Ideal.ofBits .f32 ((e + k) * 8388608#32) ≤ x then e + k else e

/-- The whole search. -/
def search (x : EReal) : BitVec 32 :=
  probe x 1#32 (probe x 2#32 (probe x 4#32 (probe x 8#32 (probe x 16#32 (probe x 32#32 (probe x 64#32 (probe x 128#32 0#32)))))))

/-- `x` lies between the words with fields `n` and `n + w`. -/
def Within (x : EReal) (n w : ℕ) : Prop :=
  (n = 0 ∨ field n ≤ x) ∧ (n + w = 256 ∨ x < field (n + w)) ∧ n + w ≤ 256

theorem probe_within {x : EReal} {n : ℕ} (k : ℕ) (hk : 0 < k) (h : Within x n (2 * k)) :
    ∃ n', probe x (BitVec.ofNat 32 k) (BitVec.ofNat 32 n) = BitVec.ofNat 32 n' ∧ Within x n' k := by
  have e : BitVec.ofNat 32 n + BitVec.ofNat 32 k = BitVec.ofNat 32 (n + k) := (BitVec.ofNat_add n k).symm
  unfold probe
  rw [e]
  by_cases hx : Ideal.ofBits .f32 (BitVec.ofNat 32 (n + k) * 8388608#32) ≤ x
  · exact ⟨n + k, if_pos hx, Or.inr hx, by rw [show n + k + k = n + 2 * k by ring]; exact h.2⟩
  · exact ⟨n, if_neg hx, h.1, Or.inr (not_le.mp hx), by have := h.2.2; omega⟩

theorem search_within (x : EReal) : ∃ n, n ≤ 255 ∧ search x = BitVec.ofNat 32 n ∧ Within x n 1 := by
  have h0 : Within x 0 (2 * 128) := ⟨Or.inl rfl, Or.inl rfl, le_refl _⟩
  obtain ⟨n₁, e₁, h₁⟩ := probe_within 128 (by decide) h0
  obtain ⟨n₂, e₂, h₂⟩ := probe_within 64 (by decide) h₁
  obtain ⟨n₃, e₃, h₃⟩ := probe_within 32 (by decide) h₂
  obtain ⟨n₄, e₄, h₄⟩ := probe_within 16 (by decide) h₃
  obtain ⟨n₅, e₅, h₅⟩ := probe_within 8 (by decide) h₄
  obtain ⟨n₆, e₆, h₆⟩ := probe_within 4 (by decide) h₅
  obtain ⟨n₇, e₇, h₇⟩ := probe_within 2 (by decide) h₆
  obtain ⟨n₈, e₈, h₈⟩ := probe_within 1 (by decide) h₇
  refine ⟨n₈, by have := h₈.2.2; omega, ?_, h₈⟩
  unfold search
  rw [show (0#32) = BitVec.ofNat 32 0 from rfl, e₁, e₂, e₃, e₄, e₅, e₆, e₇, e₈]

/-- The exponent the reference computes: `0` below the smallest normal f32, `129` at infinity, else one more than the
    floor of the base two logarithm, which is taken to be at most `127`. -/
def frexp (x : EReal) : BitVec 32 :=
  if x < Ideal.ofBits .f32 0x00800000#32 then 0#32
  else if x = ⊤ then 129#32
  else Ideal.fptosi 32 (min (Ideal.liftRound Int.floor (Ideal.div (Ideal.log x) (Ideal.log (Ideal.ofBits .f32 0x40000000#32))))
    (Ideal.ofBits .f32 0x42FE0000#32)) + 1#32

theorem ofBits_two : Ideal.ofBits .f32 0x40000000#32 = ((2 : ℝ) : EReal) := by
  simp [Ideal.ofBits, Ideal.ieee]
  rw [← EReal.coe_mul]
  norm_num

theorem ofBits_127 : Ideal.ofBits .f32 0x42FE0000#32 = ((127 : ℝ) : EReal) := by
  simp [Ideal.ofBits, Ideal.ieee]
  rw [← EReal.coe_mul]
  norm_num

/-- The floor of the base two logarithm of a number between two consecutive powers of two. -/
theorem le_log_iff {r : ℝ} (hr : 0 < r) (z : ℤ) : (z : ℝ) ≤ Real.log r / Real.log 2 ↔ (2 : ℝ) ^ z ≤ r := by
  rw [le_div_iff₀ (Real.log_pos (by norm_num)), ← Real.log_zpow, Real.log_le_log_iff (by positivity) hr]

/-- The logarithm the reference takes, at a positive real. -/
theorem log_eq {r : ℝ} (hr : 0 < r) {z : ℤ} (hz : min ⌊Real.log r / Real.log 2⌋ 127 = z) :
    min (Ideal.liftRound Int.floor (Ideal.div (Ideal.log (r : EReal)) (Ideal.log (Ideal.ofBits .f32 0x40000000#32))))
      (Ideal.ofBits .f32 0x42FE0000#32) = ((z : ℝ) : EReal) := by
  have hl : Real.log 2 ≠ 0 := (Real.log_pos (by norm_num)).ne'
  rw [ofBits_two, ofBits_127, Ideal.log_coe, Ideal.log_coe, if_neg (not_le.mpr hr), if_neg (by norm_num), Ideal.div_coe hl,
    ← EReal.coe_mul, mul_one_div]
  show min (((⌊Real.log r / Real.log 2⌋ : ℤ) : ℝ) : EReal) ((127 : ℝ) : EReal) = _
  rw [← hz]
  push_cast
  exact (EReal.coe_strictMono.monotone.map_min).symm

/-- Rounding an integer of the exponent range to an integer changes nothing. -/
theorem fptosi_int {z : ℤ} (h0 : -1000 ≤ z) (h1 : z ≤ 1000) : Ideal.fptosi 32 ((z : ℝ) : EReal) = BitVec.ofInt 32 z := by
  unfold Ideal.fptosi
  congr 1
  show max _ (min _ (if 0 ≤ (z : ℝ) then ⌊(z : ℝ)⌋ else ⌈(z : ℝ)⌉)) = z
  simp only [Int.floor_intCast, Int.ceil_intCast, ite_self]
  norm_num
  omega

theorem frexp_of_zero {x : EReal} (h : Within x 0 1) : frexp x = 0#32 := by
  rcases h.2.1 with h | h
  · omega
  · exact if_pos (by rw [show (0x00800000#32 : BitVec 32) = BitVec.ofNat 32 1 * 8388608#32 by decide]; exact h)

theorem not_small {x : EReal} {n : ℕ} (h0 : 1 ≤ n) (h1 : n ≤ 254) (h : field n ≤ x) :
    ¬ x < Ideal.ofBits .f32 0x00800000#32 := by
  rw [show (0x00800000#32 : BitVec 32) = BitVec.ofNat 32 1 * 8388608#32 by decide]
  change ¬ x < field 1
  rw [not_lt]
  refine le_trans ?_ h
  rw [field_of_pos h0 h1, field_of_pos le_rfl (by norm_num)]
  exact EReal.coe_le_coe_iff.mpr (zpow_le_zpow_right₀ (by norm_num) (by omega))

theorem frexp_of_top {x : EReal} (h : Within x 255 1) : x = ⊤ ∧ frexp x = 129#32 := by
  have hx : x = ⊤ := by
    rcases h.1 with h | h
    · omega
    · rw [field_top] at h; exact top_le_iff.mp h
  subst hx
  refine ⟨rfl, ?_⟩
  unfold frexp
  rw [if_neg (not_small (n := 1) le_rfl (by norm_num) le_top), if_pos rfl]

theorem frexp_of_normal {x : EReal} {n : ℕ} (h0 : 1 ≤ n) (h1 : n ≤ 254) (h : Within x n 1) :
    frexp x = BitVec.ofInt 32 ((n : ℤ) - 127) + 1#32 := by
  have hn : field n ≤ x := by rcases h.1 with h | h; · omega
                              · exact h
  have ht : x < ⊤ := by
    rcases h.2.1 with h | h
    · omega
    · exact lt_of_lt_of_le h le_top
  have hb : ⊥ < x := lt_of_lt_of_le (by rw [field_of_pos h0 h1]; exact EReal.bot_lt_coe _) hn
  obtain ⟨r, rfl⟩ : ∃ r : ℝ, (r : EReal) = x := ⟨x.toReal, EReal.coe_toReal ht.ne hb.ne'⟩
  rw [field_of_pos h0 h1, EReal.coe_le_coe_iff] at hn
  have hr : 0 < r := lt_of_lt_of_le (by positivity) hn
  have hz : min ⌊Real.log r / Real.log 2⌋ 127 = (n : ℤ) - 127 := by
    have hlo : (n : ℤ) - 127 ≤ ⌊Real.log r / Real.log 2⌋ := Int.le_floor.mpr ((le_log_iff hr _).mpr hn)
    by_cases hn' : n = 254
    · subst hn'
      exact min_eq_right (by simpa using hlo)
    · have hhi : ¬ ((n : ℤ) - 127 + 1 ≤ ⌊Real.log r / Real.log 2⌋) := by
        rw [Int.le_floor, le_log_iff hr, not_le]
        rcases h.2.1 with h | h
        · omega
        · rw [field_of_pos (by omega) (by omega), EReal.coe_lt_coe_iff] at h
          calc r < _ := h
            _ = _ := by congr 1; push_cast; ring
      omega
  unfold frexp
  rw [if_neg (not_small h0 h1 (by rw [field_of_pos h0 h1]; exact EReal.coe_le_coe_iff.mpr hn)), if_neg (EReal.coe_ne_top r),
    log_eq hr hz, fptosi_int (by omega) (by omega)]

/-- The scale's word as the kernel builds it from the field found. -/
def scaleWord (e : BitVec 32) : BitVec 32 :=
  if e * 8388608#32 = 0#32 then 1065353216#32 else e * 8388608#32 + 8388608#32

theorem words_normal : ∀ n : Fin 256, n.val ≠ 0 → n.val ≠ 255 →
    scaleWord (BitVec.ofNat 32 n.val) = (BitVec.ofInt 32 ((n.val : ℤ) - 127) + 1#32 + 127#32) <<< 23#32
      ∧ 2130706432#32 - scaleWord (BitVec.ofNat 32 n.val)
          = (0#32 - (BitVec.ofInt 32 ((n.val : ℤ) - 127) + 1#32) + 127#32) <<< 23#32 := by
  decide +kernel

/-- The two words agree, and so do the words of the inverse. -/
theorem words_eq (x : EReal) : scaleWord (search x) = (frexp x + 127#32) <<< 23#32
    ∧ 2130706432#32 - scaleWord (search x) = (0#32 - frexp x + 127#32) <<< 23#32 := by
  obtain ⟨n, hn, e, h⟩ := search_within x
  rw [e]
  by_cases h0 : n = 0
  · subst h0
    rw [frexp_of_zero h]
    decide +kernel
  by_cases h1 : n = 255
  · subst h1
    rw [(frexp_of_top h).2]
    decide +kernel
  rw [frexp_of_normal (by omega) (by omega) h]
  exact words_normal ⟨n, by omega⟩ h0 h1

end Cert.Exponent

end
-- ==== Proof.Row.lean ====
module

public import proofs.«01_k».proof.Proof.Exponent
public import Idealize.ShloMosaic.Lib.Pointwise

/-!
# One row of the state

A row of the state is one head and one position inside it: its codes, its scale, and what each step adds. `state` gives
codes and scale after a number of steps and `y` the step's output, over the extended reals. Both programs compute these
for every row of every batch.
-/

@[expose] public section

noncomputable section

namespace Cert.Row

open Idealize.ShloMosaic

/-- What one row is computed from. -/
structure RowIn where
  codes : Fin 128 → EReal
  scale : EReal
  dt : ℕ → EReal
  x : ℕ → EReal
  b : ℕ → Fin 128 → EReal
  c : ℕ → Fin 128 → EReal
  bias : EReal
  alog : EReal
  skip : EReal

/-- The step size: the softplus of the sum, as both programs spell it. -/
def delta (d b : EReal) : EReal :=
  if d + b ≠ d + b then d + b
  else max (d + b) 0 + Ideal.log1p (Ideal.exp (0 - FloatOps.absf (F := Ideal) (φ := .f32) (d + b)))

/-- What a step multiplies the state by. -/
def decay (δ a : EReal) : EReal := Ideal.exp ((0 - δ) * Ideal.exp a)

/-- The largest magnitude of a row, over the largest code. -/
def amax (h : Fin 128 → EReal) : EReal :=
  (Finset.univ.fold max (Ideal.ofBits .f32 4286578688#32) fun n => FloatOps.absf (F := Ideal) (φ := .f32) (h n))
    * Ideal.ofBits .f32 991054117#32

/-- The word of a row's scale. -/
def word (h : Fin 128 → EReal) : BitVec 32 := Exponent.scaleWord (Exponent.search (amax h))

/-- The scale of a row. -/
def newScale (h : Fin 128 → EReal) : EReal := Ideal.ofBits .f32 (word h)

/-- The codes of a row. -/
def newCodes (h : Fin 128 → EReal) (n : Fin 128) : EReal :=
  min (Ideal.ofBits .f32 1138753536#32)
    (max (Ideal.ofBits .f32 3286237184#32) (h n * Ideal.ofBits .f32 (2130706432#32 - word h)))

namespace RowIn

/-- A row of the state before it is rounded to codes again. -/
def next (R : RowIn) (cs : (Fin 128 → EReal) × EReal) (t : ℕ) (n : Fin 128) : EReal :=
  cs.1 n * (decay (delta (R.dt t) R.bias) R.alog * cs.2) + delta (R.dt t) R.bias * R.x t * R.b t n

/-- Codes and scale after `t` steps. -/
def state (R : RowIn) : ℕ → (Fin 128 → EReal) × EReal
  | 0 => (R.codes, R.scale)
  | t + 1 => (newCodes (R.next (R.state t) t), newScale (R.next (R.state t) t))

/-- The output of step `t`. -/
def y (R : RowIn) (t : ℕ) : EReal :=
  (∑ n, R.c t n * (R.state (t + 1)).1 n) * (R.state (t + 1)).2 + R.skip * R.x t

end RowIn

/-- A step of the sequence, by number. -/
abbrev stepAt (t : ℕ) : Fin 6 := ⟨min t 5, by omega⟩

/-- The row of batch `b`, head `h` and position `p` of the nine arguments. -/
def rowIn (x : (⟨4, ![40, 6, 48, 64]⟩ : Shape).Idx → EReal) (codes : (⟨4, ![40, 48, 64, 128]⟩ : Shape).Idx → EReal)
    (scale : (⟨3, ![40, 48, 64]⟩ : Shape).Idx → EReal) (B C : (⟨4, ![40, 6, 1, 128]⟩ : Shape).Idx → EReal)
    (dt : (⟨3, ![40, 6, 48]⟩ : Shape).Idx → EReal) (bias alog skip : (⟨1, ![48]⟩ : Shape).Idx → EReal)
    (b : Fin 40) (h : Fin 48) (p : Fin 64) : RowIn where
  codes n := codes (ix4 b h p n)
  scale := scale (ix3 b h p)
  dt t := dt (ix3 b (stepAt t) h)
  x t := x (ix4 b (stepAt t) h p)
  b t n := B (ix4 b (stepAt t) 0 n)
  c t n := C (ix4 b (stepAt t) 0 n)
  bias := bias (ix1 h)
  alog := alog (ix1 h)
  skip := skip (ix1 h)

end Cert.Row
-- ==== Proof.KernelRow.lean ====
module

public import proofs.«01_k».proof.Proof.KernelStep
public import proofs.«01_k».proof.Proof.Row
public import Idealize.ShloMosaic.Lib.Pointwise

/-!
# A trip of the loop computes rows of the state

A trip holds 512 rows: row `4 l + j` sits in lane `l`, sublanes `j` and `j + 4`. The codes are held transposed, so
position `q` of lane `l` is code `q / 4` of row `4 l + q % 4`. Where what the trip loads agrees with a family of rows,
what it holds and stores is what those rows compute.
-/

@[expose] public section

set_option maxRecDepth 16384

noncomputable section

namespace Cert.KernelRun

open Cert.KernelIdeal Cert.KernelIdeal.Gen
open Idealize.ShloMosaic Idealize.ShloMosaic.TcCoe
open Cert.Row (RowIn)

/-- One comparison of the search for an exponent field, and what it adds. -/
def probeStep (a : FVec Ideal S8x128 .f32) (k : BitVec 32) (e : IVec S8x128 32) : IVec S8x128 32 :=
  select (cmpf .oge a (bitcastToFloat .f32 (muli (addi e (broadcast S8x128 k)) (broadcast S8x128 8388608#32))))
    (addi e (broadcast S8x128 k)) e

/-- The word of the scale of the exponent field `e`. -/
def finish (e : IVec S8x128 32) : IVec S8x128 32 :=
  select (cmpi .eq (muli e (broadcast S8x128 8388608#32)) (broadcast S8x128 0#32)) (broadcast S8x128 1065353216#32)
    (addi (muli e (broadcast S8x128 8388608#32)) (broadcast S8x128 8388608#32))

theorem first_eq (a : FVec Ideal S8x128 .f32) :
    select (firstProbe a) k0_pay13 k0_pay11 = probeStep a 128#32 k0_pay11 := rfl

theorem pay14_eq (a : FVec Ideal S8x128 .f32) (e : IVec S8x128 32) (p : IVec S8x128 1) (e' : IVec S8x128 32) :
    k0_pay14 a e p e' = probeStep a 8#32 (probeStep a 16#32 (probeStep a 32#32 (probeStep a 64#32 (select p e' e)))) := by
  simp only [k0_pay14, probeStep]

theorem pay15_eq (a : FVec Ideal S8x128 .f32) (e : IVec S8x128 32) (p : IVec S8x128 1) (e' : IVec S8x128 32) :
    select (k0_pay15 a e p e') (k0_pay16 a e p e') (k0_pay14 a e p e') = probeStep a 4#32 (k0_pay14 a e p e') := by
  simp only [k0_pay15, k0_pay16, probeStep]

theorem pay17_eq (a : FVec Ideal S8x128 .f32) (e : IVec S8x128 32) (p : IVec S8x128 1) (e' : IVec S8x128 32) :
    k0_pay17 a e p e' = finish (probeStep a 1#32 (probeStep a 2#32 (select p e' e))) := by
  simp only [k0_pay17, finish, probeStep]

theorem scaleBits_eq (a : FVec Ideal S8x128 .f32) :
    scaleBits a = finish (probeStep a 1#32 (probeStep a 2#32 (probeStep a 4#32 (probeStep a 8#32
      (probeStep a 16#32 (probeStep a 32#32 (probeStep a 64#32 (probeStep a 128#32 k0_pay11)))))))) := by
  unfold scaleBits
  rw [pay17_eq, pay15_eq, pay14_eq, first_eq]

theorem compare_at (a : FVec Ideal S8x128 .f32) (k w : BitVec 32) (e : IVec S8x128 32) (j : S8x128.Idx) :
    select (cmpf .oge a (bitcastToFloat .f32 (muli (addi e (broadcast S8x128 k)) (broadcast S8x128 w))))
      (addi e (broadcast S8x128 k)) e j = if Ideal.ofBits .f32 ((e j + k) * w) ≤ a j then e j + k else e j := by
  pointwise []
  simp only [IntOp.addi, IntOp.muli]
  congr

theorem probeStep_at (a : FVec Ideal S8x128 .f32) (k : BitVec 32) (e : IVec S8x128 32) (j : S8x128.Idx) :
    probeStep a k e j = Exponent.probe (a j) k (e j) := by
  unfold probeStep Exponent.probe
  exact (compare_at a k _ e j).trans (by congr)

theorem finish_at (e : IVec S8x128 32) (j : S8x128.Idx) : finish e j = Exponent.scaleWord (e j) := by
  pointwise [finish]
  change Scalar.select (BitVec.ofBool (e j * 8388608#32 == 0#32)) _ _ = _
  unfold Exponent.scaleWord
  by_cases h : e j * 8388608#32 = 0#32
  · rw [if_pos h, h]; rfl
  · rw [if_neg h, beq_false_of_ne h]; rfl

theorem scaleBits_at (a : FVec Ideal S8x128 .f32) (j : S8x128.Idx) :
    scaleBits a j = Exponent.scaleWord (Exponent.search (a j)) := by
  rw [scaleBits_eq, finish_at]
  simp only [probeStep_at]
  rfl

/-- The two halves of a row's positions, largest first, make the row's largest. -/
theorem max_halves (z : EReal) (f : Fin 128 → EReal) (s : Fin 8) :
    max (Finset.univ.fold max z fun i : Fin 64 => f ⟨2 * i.val + s.val / 4, by omega⟩)
      (Finset.univ.fold max z fun i : Fin 64 => f ⟨2 * i.val + (s.val + 8 - 4) % 8 / 4, by omega⟩)
      = Finset.univ.fold max z f := by
  apply le_antisymm
  · refine max_le ?_ ?_ <;>
      exact (Finset.fold_max_le _).2 ⟨(Finset.le_fold_max _).2 (Or.inl le_rfl),
        fun i _ => (Finset.le_fold_max _).2 (Or.inr ⟨_, Finset.mem_univ _, le_rfl⟩)⟩
  · refine (Finset.fold_max_le _).2 ⟨le_max_of_le_left ((Finset.le_fold_max _).2 (Or.inl le_rfl)), fun n _ => ?_⟩
    have hn := n.isLt
    have hs := s.isLt
    by_cases h : n.val % 2 = s.val / 4
    · refine le_max_of_le_left ((Finset.le_fold_max _).2 (Or.inr ⟨⟨n.val / 2, by omega⟩, Finset.mem_univ _, ?_⟩))
      exact le_of_eq (congrArg f (Fin.ext (by dsimp only; omega)))
    · refine le_max_of_le_right ((Finset.le_fold_max _).2 (Or.inr ⟨⟨n.val / 2, by omega⟩, Finset.mem_univ _, ?_⟩))
      exact le_of_eq (congrArg f (Fin.ext (by dsimp only; omega)))

/-- The row of lane `l` in sublane `s`. -/
abbrev sub (s : Fin 8) : Fin 4 := ⟨s.val % 4, Nat.mod_lt _ (by omega)⟩

/-- The row and the position in it of position `q`. -/
abbrev rowOf (q : Fin 512) : Fin 4 := ⟨q.val % 4, Nat.mod_lt _ (by omega)⟩
abbrev posOf (q : Fin 512) : Fin 128 := ⟨q.val / 4, by omega⟩

/-- A state before rounding holds the rows `H`. -/
def Holds (h : FVec Ideal S64x8x128 .f32) (H : Fin 4 → Fin 128 → Fin 128 → EReal) : Prop :=
  ∀ (i : Fin 64) (s : Fin 8) (l : Fin 128), h (ix3 i s l) = H (sub s) l ⟨2 * i.val + s.val / 4, by omega⟩

theorem absmax_at {h : FVec Ideal S64x8x128 .f32} {H : Fin 4 → Fin 128 → Fin 128 → EReal} (hh : Holds h H)
    (s : Fin 8) (l : Fin 128) : absmax h (ix2 s l) = Row.amax (H (sub s) l) := by
  have e : sub ⟨(s.val + 8 - 4) % 8, Nat.mod_lt _ (by omega)⟩ = sub s := Fin.ext (by dsimp only; omega)
  pointwise [absmax]
  simp only [hh _ _ _]
  rw [e]
  exact congrArg (· * Ideal.ofBits .f32 991054117#32)
    (max_halves _ (fun n => FloatOps.absf (F := Ideal) (φ := .f32) (H (sub s) l n)) s)

theorem newScale_at {h : FVec Ideal S64x8x128 .f32} {H : Fin 4 → Fin 128 → Fin 128 → EReal} (hh : Holds h H)
    (s : Fin 8) (l : Fin 128) : newScale h (ix2 s l) = Row.newScale (H (sub s) l) := by
  show Ideal.ofBits .f32 (scaleBits (absmax h) (ix2 s l)) = _
  rw [scaleBits_at, absmax_at hh]
  rfl

theorem pay19_at (a : FVec Ideal S8x128 .f32) (e : IVec S8x128 32) (p : IVec S8x128 1) (e' : IVec S8x128 32)
    (h : FVec Ideal S64x8x128 .f32) (q : Fin 512) (l : Fin 128) :
    k0_pay19 a e p e' h (ix2 q l) = min (Ideal.ofBits .f32 1138753536#32) (max (Ideal.ofBits .f32 3286237184#32)
      (h (ix3 ⟨q.val / 8, by omega⟩ ⟨q.val % 8, by omega⟩ l)
        * Ideal.ofBits .f32 (2130706432#32 - k0_pay17 a e p e' (ix2 ⟨q.val % 8, by omega⟩ l)))) := by
  pointwise [k0_pay19]
  rfl

theorem newCodes_at {h : FVec Ideal S64x8x128 .f32} {H : Fin 4 → Fin 128 → Fin 128 → EReal} (hh : Holds h H)
    (q : Fin 512) (l : Fin 128) : newCodes h (ix2 q l) = Row.newCodes (H (rowOf q) l) (posOf q) := by
  have e : sub ⟨q.val % 8, by omega⟩ = rowOf q := Fin.ext (by dsimp only; omega)
  have e' : (⟨2 * (q.val / 8) + q.val % 8 / 4, by omega⟩ : Fin 128) = posOf q := Fin.ext (by dsimp only; omega)
  unfold newCodes
  rw [shapeCast_self, pay19_at]
  change min _ (max _ (_ * Ideal.ofBits .f32 (2130706432#32 - scaleBits (absmax h) (ix2 ⟨q.val % 8, by omega⟩ l)))) = _
  rw [scaleBits_at, absmax_at hh, hh, e]
  dsimp only
  rw [e']
  rfl

/-- What the trip loads is what the rows `G` are computed from. -/
structure Reads (R : Rows Ideal) (G : Fin 4 → Fin 128 → RowIn) : Prop where
  codes : ∀ (p : Fin 512) (n : Fin 128), R.codes (ix4 0 0 p n) = (G (rowOf p) (posOf p)).codes n
  scale : ∀ (s : Fin 8) (l : Fin 128), R.scale (ix4 0 0 s l) = (G (sub s) l).scale
  dt : ∀ (t : ℕ) (s : Fin 8) (l : Fin 128), R.dt t (ix5 0 0 0 s l) = (G (sub s) l).dt t
  x : ∀ (t : ℕ) (s : Fin 8) (l : Fin 128), R.x t (ix5 0 0 0 s l) = (G (sub s) l).x t
  b : ∀ (t : ℕ) (q : Fin 512) (j : Fin 4) (l : Fin 128), R.b t (ix4 0 0 0 q) = (G j l).b t (posOf q)
  c : ∀ (t : ℕ) (q : Fin 512) (j : Fin 4) (l : Fin 128), R.c t (ix4 0 0 0 q) = (G j l).c t (posOf q)
  bias : ∀ (s : Fin 8) (l : Fin 128), R.bias (ix3 0 s l) = (G (sub s) l).bias
  alog : ∀ (s : Fin 8) (l : Fin 128), R.alog (ix3 0 s l) = (G (sub s) l).alog
  skip : ∀ (s : Fin 8) (l : Fin 128), R.skip (ix3 0 s l) = (G (sub s) l).skip

theorem pay5_at (d : Vec Ideal S1x1x1x8x128 .f32) (b : Vec Ideal S1x8x128 .f32) (s : Fin 8) (l : Fin 128) :
    k0_pay5 d b (ix2 s l) = Row.delta (d (ix5 0 0 0 s l)) (b (ix3 0 s l)) := by
  pointwise [k0_pay5]
  rfl

theorem pay6_at (d : Vec Ideal S1x1x1x8x128 .f32) (b a : Vec Ideal S1x8x128 .f32) (s : Fin 8) (l : Fin 128) :
    k0_pay6 d b a (ix2 s l) = Row.decay (Row.delta (d (ix5 0 0 0 s l)) (b (ix3 0 s l))) (a (ix3 0 s l)) := by
  pointwise [k0_pay6, k0_pay5]
  rfl

theorem pay8_at (v43 : FVec Ideal S512x128 .fp8e4m3) (v46 v67 v75 : FVec Ideal S8x128 .f32)
    (v77 : Vec Ideal S1x1x1x8x128 .f32) (v80 : Vec Ideal S1x1x1x512 .f32) (i : Fin 64) (s : Fin 8) (l : Fin 128) :
    k0_pay8 v43 v46 v67 v75 v77 v80 (ix3 i s l) = v43 (ix2 ⟨i.val * 8 + s.val, by omega⟩ l) * (v75 (ix2 s l) * v46 (ix2 s l))
      + v67 (ix2 s l) * v77 (ix5 0 0 0 s l) * v80 (ix4 0 0 0 ⟨i.val * 8 + s.val, by omega⟩) := by
  pointwise [k0_pay8, k0_pay7]

section Reading

variable {R : Rows Ideal} {G : Fin 4 → Fin 128 → RowIn} (hR : Reads R G)

include hR

theorem next_holds {cs : FVec Ideal S512x128 .fp8e4m3 × FVec Ideal S8x128 .f32} {CS : Fin 4 → Fin 128 → (Fin 128 → EReal) × EReal}
    (h1 : ∀ (q : Fin 512) (l : Fin 128), cs.1 (ix2 q l) = (CS (rowOf q) l).1 (posOf q))
    (h2 : ∀ (s : Fin 8) (l : Fin 128), cs.2 (ix2 s l) = (CS (sub s) l).2) (t : ℕ) :
    Holds (R.next cs t) fun j l => (G j l).next (CS j l) t := by
  intro i s l
  have e : rowOf ⟨i.val * 8 + s.val, by omega⟩ = sub s := Fin.ext (by dsimp only; omega)
  have e' : posOf ⟨i.val * 8 + s.val, by omega⟩ = ⟨2 * i.val + s.val / 4, by omega⟩ := Fin.ext (by dsimp only; omega)
  unfold Rows.next
  rw [pay8_at, pay6_at, pay5_at, h1, h2, hR.dt, hR.x, hR.bias, hR.alog, hR.b t _ (sub s) l, e, e']
  rfl

theorem state_at (t : ℕ) : (∀ (q : Fin 512) (l : Fin 128), (R.state t).1 (ix2 q l) = ((G (rowOf q) l).state t).1 (posOf q))
    ∧ (∀ (s : Fin 8) (l : Fin 128), (R.state t).2 (ix2 s l) = ((G (sub s) l).state t).2) := by
  induction t with
  | zero =>
    refine ⟨fun q l => ?_, fun s l => ?_⟩
    · show k0_pay3 R.codes (ix2 q l) = (G (rowOf q) l).codes (posOf q)
      pointwise [k0_pay3]
      rw [hR.codes]
      have e : rowOf ⟨l.val * 4 + q.val % 4, by omega⟩ = rowOf q := Fin.ext (by dsimp only; omega)
      have e' : posOf ⟨l.val * 4 + q.val % 4, by omega⟩ = l := Fin.ext (by dsimp only; omega)
      rw [e, e']
    · show k0_pay4 R.scale (ix2 s l) = (G (sub s) l).scale
      pointwise [k0_pay4]
      exact hR.scale s l
  | succ t ih =>
    have hh := next_holds hR (cs := R.state t) (CS := fun j l => (G j l).state t) ih.1 ih.2 t
    exact ⟨fun q l => newCodes_at hh q l, fun s l => newScale_at hh s l⟩

theorem ckpt_at (t : ℕ) (p : Fin 512) (n : Fin 128) :
    R.ckpt t (ix5 0 0 0 p n) = ((G (rowOf p) (posOf p)).state (t + 1)).1 n := by
  show k0_pay21 (backTransposed (R.state (t + 1)).1) (ix5 0 0 0 p n) = _
  pointwise [k0_pay21, backTransposed]
  rw [(state_at hR (t + 1)).1]
  have e : rowOf ⟨n.val * 4 + p.val % 4, by omega⟩ = rowOf p := Fin.ext (by dsimp only; omega)
  have e' : posOf ⟨n.val * 4 + p.val % 4, by omega⟩ = n := Fin.ext (by dsimp only; omega)
  rw [e, e']

theorem osc_at (t : ℕ) (s : Fin 8) (l : Fin 128) :
    R.osc t (ix5 0 0 0 s l) = ((G (sub s) l).state (t + 1)).2 := by
  show k0_pay22 (R.state (t + 1)).2 (ix5 0 0 0 s l) = _
  pointwise [k0_pay22]
  exact (state_at hR (t + 1)).2 s l

end Reading

/-- The mask of the product with `C` is set where position and sublane are of one row. -/
theorem mask_at (s : Fin 8) (q : Fin 512) : k0_pay1 (ix2 s q) = if q.val % 4 = s.val % 4 then 1#1 else 0#1 := by
  pointwise [k0_pay1]
  revert s q
  decide +kernel

theorem pay23_at (p : IVec S8x512 1) (v78 v189 : FVec Ideal S8x128 .f32) (v202 : FVec Ideal S512x128 .fp8e4m3)
    (v214 : Vec Ideal S1x1x1x512 .f32) (v225 : Vec Ideal S1x8x128 .f32) (s : Fin 8) (l : Fin 128) :
    k0_pay23 p v78 v189 v202 v214 v225 (ix5 0 0 0 s l)
      = (∑ q, Scalar.select (p (ix2 s q)) (v214 (ix4 0 0 0 q) * v202 (ix2 q l)) 0) * v189 (ix2 s l)
        + v225 (ix3 0 s l) * v78 (ix2 s l) := by
  pointwise [k0_pay23]

/-- Of the 512 positions of a lane the mask leaves the 128 of one row. -/
theorem masked_sum (s : Fin 8) (f : Fin 128 → EReal) (g : Fin 512 → EReal) (h : ∀ q, rowOf q = sub s → g q = f (posOf q)) :
    (∑ q : Fin 512, Scalar.select (if q.val % 4 = s.val % 4 then 1#1 else 0#1) (g q) 0) = ∑ n, f n := by
  rw [Fin.sum_univ_tiles 128 4 rfl]
  refine Finset.sum_congr rfl fun n _ => ?_
  rw [Finset.sum_eq_single (sub s)]
  · have e : (n.val * 4 + s.val % 4) % 4 = s.val % 4 := by omega
    have e' : (n.val * 4 + s.val % 4) / 4 = n.val := by omega
    rw [if_pos e, h _ (Fin.ext e)]
    exact congrArg f (Fin.ext e')
  · intro j _ hj
    have hj' : j.val ≠ s.val % 4 := fun h => hj (Fin.ext h)
    have hj4 := j.isLt
    rw [if_neg (by dsimp only; omega)]
    rfl
  · exact fun h => absurd (Finset.mem_univ _) h

theorem y_at {R : Rows Ideal} {G : Fin 4 → Fin 128 → RowIn} (hR : Reads R G) (t : ℕ) (s : Fin 8) (l : Fin 128) :
    R.y t (ix5 0 0 0 s l) = (G (sub s) l).y t := by
  have hs := state_at hR (t + 1)
  unfold Rows.y
  rw [pay23_at]
  simp only [mask_at]
  rw [masked_sum s (fun n => (G (sub s) l).c t n * ((G (sub s) l).state (t + 1)).1 n) _ fun q hq => by
    rw [hR.c t q (sub s) l, hs.1, hq], hs.2, hR.skip]
  pointwise [k0_pay7]
  rw [hR.x]
  rfl

end Cert.KernelRun
-- ==== Proof.KernelHost.lean ====
module

public import proofs.«01_k».proof.Proof.KernelFrame
public import proofs.«01_k».proof.Proof.KernelRow
public import Idealize.ShloMosaic.Lib.Pointwise
public import Idealize.ShloMosaic.Lib.Pipeline.ValueKit
public import Idealize.ShloMosaic.Lib.StableHlo.RunRead

/-!
# What the kernel's region finds, and what is made of its results

The operations before the region lay the arguments out over lanes, those after it lay the results back. Each laid-out
array is named here as a function of an argument and read at an index.
-/

@[expose] public section

set_option maxRecDepth 16384

noncomputable section

open Idealize.ShloMosaic Idealize.ShloMosaic.TcCoe Idealize.SL.Sem

namespace Cert.KernelRun

open Cert.KernelIdeal Cert.KernelIdeal.Gen

/-- The head of lane `l` in group `k` of eight heads. -/
def headOf (k : Fin 6) (l : Fin 128) : Fin 48 := ⟨k * 8 + l / 16, by omega⟩

/-- The position within its head of the row in sublane `j` (of four) of lane `l`. -/
def elemOf (j : Fin 4) (l : Fin 128) : Fin 64 := ⟨l % 16 * 4 + j, by omega⟩

theorem elem_low (s : Fin 8) (l : Fin 128) (h : (s : ℕ) < 4) : (⟨l % 16 * 4 + s, by omega⟩ : Fin 64) = ⟨l % 16 * 4 + s % 4, by omega⟩ :=
  Fin.ext (by show (l : ℕ) % 16 * 4 + s = l % 16 * 4 + s % 4; omega)

theorem elem_high (s : Fin 8) (l : Fin 128) (h : ¬(s : ℕ) < 4) :
    (⟨l % 16 * 4 + (s - 4), by omega⟩ : Fin 64) = ⟨l % 16 * 4 + s % 4, by omega⟩ :=
  Fin.ext (by show (l : ℕ) % 16 * 4 + (s - 4) = l % 16 * 4 + s % 4; omega)

/-! ## The arguments laid out -/

/-- The inputs, one row's per lane, the four sublanes written twice. -/
def laidX (a : FVec Ideal S40x6x48x64 .bf16) : FVec Ideal S40x6x6x8x128 .f32 :=
  (fun v => concatenate S40x6x6x8x128 3 [⟨S40x6x6x4x128, v⟩, ⟨S40x6x6x4x128, v⟩] concatenates_S40x6x6x4x128_S40x6x6x4x128_S40x6x6x8x128_d3)
    (extf .f32 (transpose S40x6x6x4x128 [0, 1, 2, 4, 3] (shapeCast S40x6x6x128x4 a shapeCasts_S40x6x48x64_S40x6x6x128x4)
      transposes_S40x6x6x128x4_S40x6x6x4x128_0_1_2_4_3) bitsLt_bf16_f32)

/-- The codes, the heads of a group and their positions on one axis. -/
def laidCodes (a : FVec Ideal S40x48x64x128 .fp8e4m3) : FVec Ideal S40x6x512x128 .fp8e4m3 :=
  shapeCast S40x6x512x128 a shapeCasts_S40x48x64x128_S40x6x512x128

/-- The scales, one row's per lane, the four sublanes written twice. -/
def laidScale (a : FVec Ideal S40x48x64 .f32) : FVec Ideal S40x6x8x128 .f32 :=
  (fun v => concatenate S40x6x8x128 2 [⟨S40x6x4x128, v⟩, ⟨S40x6x4x128, v⟩] concatenates_S40x6x4x128_S40x6x4x128_S40x6x8x128_d2)
    (transpose S40x6x4x128 [0, 1, 3, 2] (shapeCast S40x6x128x4 a shapeCasts_S40x48x64_S40x6x128x4)
      transposes_S40x6x128x4_S40x6x4x128_0_1_3_2)

/-- One group's vector, each entry written four times in a row. -/
def laidGroup (a : FVec Ideal S40x6x1x128 .bf16) : FVec Ideal S40x6x1x512 .f32 :=
  broadcastInDim S40x6x1x512 ![0, 1, 3] bcast_S40x6x512_S40x6x1x512_0_1_3
    (shapeCast S40x6x512 (broadcastInDim S40x6x128x4 ![0, 1, 2] bcast_S40x6x128_S40x6x128x4_0_1_2
      (extf .f32 (shapeCast S40x6x128 a shapeCasts_S40x6x1x128_S40x6x128) bitsLt_bf16_f32)) shapeCasts_S40x6x128x4_S40x6x512)

/-- A value per step and head, written for each of the head's lanes. -/
def laidDt (a : FVec Ideal S40x6x48 .f32) : FVec Ideal S40x6x6x8x128 .f32 :=
  broadcastInDim S40x6x6x8x128 ![0, 1, 2, 3, 4] bcast_S40x6x6x1x128_S40x6x6x8x128_0_1_2_3_4
    (shapeCast S40x6x6x1x128 (broadcastInDim S40x6x6x1x8x16 ![0, 1, 2, 3, 4] bcast_S40x6x6x1x8_S40x6x6x1x8x16_0_1_2_3_4
      (shapeCast S40x6x6x1x8 a shapeCasts_S40x6x48_S40x6x6x1x8)) shapeCasts_S40x6x6x1x8x16_S40x6x6x1x128)

/-- A value per head, written for each of the head's lanes. -/
def laidHead (a : FVec Ideal S48 .f32) : FVec Ideal S6x8x128 .f32 :=
  broadcastInDim S6x8x128 ![0, 1, 2] bcast_S6x1x128_S6x8x128_0_1_2
    (shapeCast S6x1x128 (broadcastInDim S6x1x8x16 ![0, 1, 2] bcast_S6x1x8_S6x1x8x16_0_1_2
      (shapeCast S6x1x8 a shapeCasts_S48_S6x1x8)) shapeCasts_S6x1x8x16_S6x1x128)

theorem laidX_at (a : FVec Ideal S40x6x48x64 .bf16) (b : Fin 40) (t k : Fin 6) (s : Fin 8) (l : Fin 128) :
    laidX a (ix5 b t k s l) = a (ix4 b t (headOf k l) (elemOf (sub s) l)) := by
  pointwise [laidX, headOf, elemOf, sub]
  by_cases h : (s : ℕ) < 4
  · rw [dif_pos h]; exact congrArg (fun e => a (ix4 b t _ e)) (elem_low s l h)
  · rw [dif_neg h]; exact congrArg (fun e => a (ix4 b t _ e)) (elem_high s l h)

theorem laidCodes_at (a : FVec Ideal S40x48x64x128 .fp8e4m3) (b : Fin 40) (k : Fin 6) (q : Fin 512) (n : Fin 128) :
    laidCodes a (ix4 b k q n) = a (ix4 b (headOf k (posOf q)) (elemOf (rowOf q) (posOf q)) n) := by
  pointwise [laidCodes, headOf, elemOf, posOf, rowOf]
  congr 2
  · apply Fin.ext; show (k : ℕ) * 8 + (q : ℕ) / 64 = (k : ℕ) * 8 + (q : ℕ) / 4 / 16; omega
  · apply Fin.ext; show (q : ℕ) % 64 = (q : ℕ) / 4 % 16 * 4 + (q : ℕ) % 4; omega

theorem laidScale_at (a : FVec Ideal S40x48x64 .f32) (b : Fin 40) (k : Fin 6) (s : Fin 8) (l : Fin 128) :
    laidScale a (ix4 b k s l) = a (ix3 b (headOf k l) (elemOf (sub s) l)) := by
  pointwise [laidScale, headOf, elemOf, sub]
  by_cases h : (s : ℕ) < 4
  · rw [dif_pos h]; exact congrArg (fun e => a (ix3 b _ e)) (elem_low s l h)
  · rw [dif_neg h]; exact congrArg (fun e => a (ix3 b _ e)) (elem_high s l h)

theorem laidGroup_at (a : FVec Ideal S40x6x1x128 .bf16) (b : Fin 40) (t : Fin 6) (q : Fin 512) :
    laidGroup a (ix4 b t 0 q) = a (ix4 b t 0 (posOf q)) := by
  pointwise [laidGroup, posOf]

theorem laidDt_at (a : FVec Ideal S40x6x48 .f32) (b : Fin 40) (t k : Fin 6) (s : Fin 8) (l : Fin 128) :
    laidDt a (ix5 b t k s l) = a (ix3 b t (headOf k l)) := by
  pointwise [laidDt, headOf]

theorem laidHead_at (a : FVec Ideal S48 .f32) (k : Fin 6) (s : Fin 8) (l : Fin 128) :
    laidHead a (ix3 k s l) = a (ix1 (headOf k l)) := by
  pointwise [laidHead, headOf]

/-! ## The results laid back -/

/-- The lane of position `p` of head `h`, within the head's group. -/
def laneOf (h : Fin 48) (p : Fin 64) : Fin 128 := ⟨h % 8 * 16 + p / 4, by omega⟩

/-- The group of head `h`. -/
def groupOf (h : Fin 48) : Fin 6 := ⟨h / 8, by omega⟩

/-- The sublane of position `p`. -/
def subOf (p : Fin 64) : Fin 8 := ⟨p % 4, by omega⟩

/-- Sublane and lane back to a position of a head. -/
def backY (v : FVec Ideal S40x6x6x8x128 .f32) : FVec Ideal S40x6x48x64 .f32 :=
  shapeCast S40x6x48x64 (transpose S40x6x6x128x4 [0, 1, 2, 4, 3]
    (extractStridedSlice S40x6x6x4x128 ![0, 0, 0, 0, 0] v slices_S40x6x6x8x128_S40x6x6x4x128_0_0_0_0_0)
    transposes_S40x6x6x4x128_S40x6x6x128x4_0_1_2_4_3) shapeCasts_S40x6x6x128x4_S40x6x48x64

/-- The codes' rows back to the positions of the heads. -/
def backCodes (v : FVec Ideal S40x6x6x512x128 .fp8e4m3) : FVec Ideal S40x6x48x64x128 .fp8e4m3 :=
  shapeCast S40x6x48x64x128 v shapeCasts_S40x6x6x512x128_S40x6x48x64x128

theorem backY_at (v : FVec Ideal S40x6x6x8x128 .f32) (b : Fin 40) (t : Fin 6) (h : Fin 48) (p : Fin 64) :
    backY v (ix4 b t h p) = v (ix5 b t (groupOf h) (subOf p) (laneOf h p)) := by
  pointwise [backY, groupOf, subOf, laneOf]

theorem backCodes_at (v : FVec Ideal S40x6x6x512x128 .fp8e4m3) (b : Fin 40) (t : Fin 6) (h : Fin 48) (p : Fin 64) (n : Fin 128) :
    backCodes v (ix5 b t h p n) = v (ix5 b t (groupOf h) ⟨h % 8 * 64 + p, by omega⟩ n) := by
  pointwise [backCodes, groupOf]

/-! ## The windows' blocks -/

variable (m : (ℓ : Loc nD τ sig) → Buf (Elt Ideal) ℓ)

/-- Where each window stands at a point of the grid. -/
theorem idx : ∀ t : Fin cfg0.N, win0_0.index t = ![t.val, 0, 0, 0, 0] ∧ win0_1.index t = ![t.val, 0, 0, 0]
    ∧ win0_2.index t = ![t.val, 0, 0, 0] ∧ win0_3.index t = ![t.val, 0, 0, 0] ∧ win0_4.index t = ![t.val, 0, 0, 0]
    ∧ win0_5.index t = ![t.val, 0, 0, 0, 0] ∧ win0_6.index t = ![0, 0, 0] ∧ win0_7.index t = ![0, 0, 0]
    ∧ win0_8.index t = ![0, 0, 0] ∧ win0_9.index t = ![t.val, 0, 0, 0, 0] ∧ win0_10.index t = ![t.val, 0, 0, 0, 0]
    ∧ win0_11.index t = ![t.val, 0, 0, 0, 0] :=
  (by decide +kernel : ∀ t : Fin grid0.N, _)

/-- The batch a point of the grid works on. -/
def batch (t : Fin cfg0.N) : Fin 40 := ⟨t.val, t.isLt.trans_eq N_0⟩

theorem V_v3 (c : Dev nD) : V m c main_v3 = laidX (m (c, Proc.devRef .tc main_arg0)) := by
  dsimp only [V, V0]
  after_reads_simp
  refine congrArg (fun v => concatenate S40x6x6x8x128 3 [⟨S40x6x6x4x128, v⟩, ⟨S40x6x6x4x128, v⟩]
    concatenates_S40x6x6x4x128_S40x6x6x4x128_S40x6x6x8x128_d3) (?_ : _ = extf .f32 _ _)
  after_reads_simp
  rfl

theorem V_v4 (c : Dev nD) : V m c main_v4 = laidCodes (m (c, Proc.devRef .tc main_arg1)) := by
  dsimp only [V, V0]
  after_reads_simp
  rfl

theorem V_v7 (c : Dev nD) : V m c main_v7 = laidScale (m (c, Proc.devRef .tc main_arg2)) := by
  dsimp only [V, V0]
  after_reads_simp
  refine congrArg (fun v => concatenate S40x6x8x128 2 [⟨S40x6x4x128, v⟩, ⟨S40x6x4x128, v⟩]
    concatenates_S40x6x4x128_S40x6x4x128_S40x6x8x128_d2) (?_ : _ = transpose _ _ _ _)
  after_reads_simp
  rfl

theorem V_v12 (c : Dev nD) : V m c main_v12 = laidGroup (m (c, Proc.devRef .tc main_arg3)) := by
  dsimp only [V, V0]
  after_reads_simp
  rfl

theorem V_v17 (c : Dev nD) : V m c main_v17 = laidGroup (m (c, Proc.devRef .tc main_arg4)) := by
  dsimp only [V, V0]
  after_reads_simp
  rfl

theorem V_v21 (c : Dev nD) : V m c main_v21 = laidDt (m (c, Proc.devRef .tc main_arg5)) := by
  dsimp only [V, V0]
  after_reads_simp
  rfl

theorem V_v25 (c : Dev nD) : V m c main_v25 = laidHead (m (c, Proc.devRef .tc main_arg6)) := by
  dsimp only [V, V0]
  after_reads_simp
  rfl

theorem V_v29 (c : Dev nD) : V m c main_v29 = laidHead (m (c, Proc.devRef .tc main_arg7)) := by
  dsimp only [V, V0]
  after_reads_simp
  rfl

theorem V_v33 (c : Dev nD) : V m c main_v33 = laidHead (m (c, Proc.devRef .tc main_arg8)) := by
  dsimp only [V, V0]
  after_reads_simp
  rfl

theorem emb_0 (t : Fin cfg0.N) (t' k : Fin 6) (s : Fin 8) (l : Fin 128) : (win0_0.blk t).view.emb (ix5 0 t' k s l) = ix5 (batch t) t' k s l := by
  blk_ext [idx t, batch]

theorem iblk_0 (c : Dev nD) (t : Fin cfg0.N) (t' k : Fin 6) (s : Fin 8) (l : Fin 128) :
    (iblk m c 0 t : FVec Ideal S1x6x6x8x128 .f32) (ix5 0 t' k s l)
      = (m (c, Proc.devRef .tc main_arg0) : FVec Ideal S40x6x48x64 .bf16) (ix4 (batch t) t' (headOf k l) (elemOf (sub s) l)) := by
  blk_simp [iblk]
  exact (congrArg _ (emb_0 t t' k s l)).trans ((congrFun (V_v3 m c) _).trans (laidX_at _ _ _ _ _ _))

theorem emb_1 (t : Fin cfg0.N) (k : Fin 6) (q : Fin 512) (n : Fin 128) : (win0_1.blk t).view.emb (ix4 0 k q n) = ix4 (batch t) k q n := by
  blk_ext [idx t, batch]

theorem iblk_1 (c : Dev nD) (t : Fin cfg0.N) (k : Fin 6) (q : Fin 512) (n : Fin 128) :
    (iblk m c 1 t : FVec Ideal S1x6x512x128 .fp8e4m3) (ix4 0 k q n)
      = (m (c, Proc.devRef .tc main_arg1) : FVec Ideal S40x48x64x128 .fp8e4m3) (ix4 (batch t) (headOf k (posOf q)) (elemOf (rowOf q) (posOf q)) n) := by
  blk_simp [iblk]
  exact (congrArg _ (emb_1 t k q n)).trans ((congrFun (V_v4 m c) _).trans (laidCodes_at _ _ _ _ _))

theorem emb_2 (t : Fin cfg0.N) (k : Fin 6) (s : Fin 8) (l : Fin 128) : (win0_2.blk t).view.emb (ix4 0 k s l) = ix4 (batch t) k s l := by
  blk_ext [idx t, batch]

theorem iblk_2 (c : Dev nD) (t : Fin cfg0.N) (k : Fin 6) (s : Fin 8) (l : Fin 128) :
    (iblk m c 2 t : FVec Ideal S1x6x8x128 .f32) (ix4 0 k s l)
      = (m (c, Proc.devRef .tc main_arg2) : FVec Ideal S40x48x64 .f32) (ix3 (batch t) (headOf k l) (elemOf (sub s) l)) := by
  blk_simp [iblk]
  exact (congrArg _ (emb_2 t k s l)).trans ((congrFun (V_v7 m c) _).trans (laidScale_at _ _ _ _ _))

theorem emb_3 (t : Fin cfg0.N) (t' : Fin 6) (q : Fin 512) : (win0_3.blk t).view.emb (ix4 0 t' 0 q) = ix4 (batch t) t' 0 q := by
  blk_ext [idx t, batch]

theorem iblk_3 (c : Dev nD) (t : Fin cfg0.N) (t' : Fin 6) (q : Fin 512) :
    (iblk m c 3 t : FVec Ideal S1x6x1x512 .f32) (ix4 0 t' 0 q)
      = (m (c, Proc.devRef .tc main_arg3) : FVec Ideal S40x6x1x128 .bf16) (ix4 (batch t) t' 0 (posOf q)) := by
  blk_simp [iblk]
  exact (congrArg _ (emb_3 t t' q)).trans ((congrFun (V_v12 m c) _).trans (laidGroup_at _ _ _ _))

theorem emb_4 (t : Fin cfg0.N) (t' : Fin 6) (q : Fin 512) : (win0_4.blk t).view.emb (ix4 0 t' 0 q) = ix4 (batch t) t' 0 q := by
  blk_ext [idx t, batch]

theorem iblk_4 (c : Dev nD) (t : Fin cfg0.N) (t' : Fin 6) (q : Fin 512) :
    (iblk m c 4 t : FVec Ideal S1x6x1x512 .f32) (ix4 0 t' 0 q)
      = (m (c, Proc.devRef .tc main_arg4) : FVec Ideal S40x6x1x128 .bf16) (ix4 (batch t) t' 0 (posOf q)) := by
  blk_simp [iblk]
  exact (congrArg _ (emb_4 t t' q)).trans ((congrFun (V_v17 m c) _).trans (laidGroup_at _ _ _ _))

theorem emb_5 (t : Fin cfg0.N) (t' k : Fin 6) (s : Fin 8) (l : Fin 128) : (win0_5.blk t).view.emb (ix5 0 t' k s l) = ix5 (batch t) t' k s l := by
  blk_ext [idx t, batch]

theorem iblk_5 (c : Dev nD) (t : Fin cfg0.N) (t' k : Fin 6) (s : Fin 8) (l : Fin 128) :
    (iblk m c 5 t : FVec Ideal S1x6x6x8x128 .f32) (ix5 0 t' k s l)
      = (m (c, Proc.devRef .tc main_arg5) : FVec Ideal S40x6x48 .f32) (ix3 (batch t) t' (headOf k l)) := by
  blk_simp [iblk]
  exact (congrArg _ (emb_5 t t' k s l)).trans ((congrFun (V_v21 m c) _).trans (laidDt_at _ _ _ _ _ _))

theorem emb_6 (t : Fin cfg0.N) (k : Fin 6) (s : Fin 8) (l : Fin 128) : (win0_6.blk t).view.emb (ix3 k s l) = ix3 k s l := by
  blk_ext [idx t, batch]

theorem iblk_6 (c : Dev nD) (t : Fin cfg0.N) (k : Fin 6) (s : Fin 8) (l : Fin 128) :
    (iblk m c 6 t : FVec Ideal S6x8x128 .f32) (ix3 k s l)
      = (m (c, Proc.devRef .tc main_arg6) : FVec Ideal S48 .f32) (ix1 (headOf k l)) := by
  blk_simp [iblk]
  exact (congrArg _ (emb_6 t k s l)).trans ((congrFun (V_v25 m c) _).trans (laidHead_at _ _ _ _))

theorem emb_7 (t : Fin cfg0.N) (k : Fin 6) (s : Fin 8) (l : Fin 128) : (win0_7.blk t).view.emb (ix3 k s l) = ix3 k s l := by
  blk_ext [idx t, batch]

theorem iblk_7 (c : Dev nD) (t : Fin cfg0.N) (k : Fin 6) (s : Fin 8) (l : Fin 128) :
    (iblk m c 7 t : FVec Ideal S6x8x128 .f32) (ix3 k s l)
      = (m (c, Proc.devRef .tc main_arg7) : FVec Ideal S48 .f32) (ix1 (headOf k l)) := by
  blk_simp [iblk]
  exact (congrArg _ (emb_7 t k s l)).trans ((congrFun (V_v29 m c) _).trans (laidHead_at _ _ _ _))

theorem emb_8 (t : Fin cfg0.N) (k : Fin 6) (s : Fin 8) (l : Fin 128) : (win0_8.blk t).view.emb (ix3 k s l) = ix3 k s l := by
  blk_ext [idx t, batch]

theorem iblk_8 (c : Dev nD) (t : Fin cfg0.N) (k : Fin 6) (s : Fin 8) (l : Fin 128) :
    (iblk m c 8 t : FVec Ideal S6x8x128 .f32) (ix3 k s l)
      = (m (c, Proc.devRef .tc main_arg8) : FVec Ideal S48 .f32) (ix1 (headOf k l)) := by
  blk_simp [iblk]
  exact (congrArg _ (emb_8 t k s l)).trans ((congrFun (V_v33 m c) _).trans (laidHead_at _ _ _ _))

end Cert.KernelRun
-- ==== Proof.KernelValue.lean ====
module

public import proofs.«01_k».proof.Proof.KernelBlock
public import proofs.«01_k».proof.Proof.KernelHost

/-!
# What the kernel computes

The arrays the region leaves hold, at the index of a row, that row's outputs, codes and scales (`Cert.Row`), and the
operations after the region lay them back by batch, step, head and position.
-/

@[expose] public section

set_option maxRecDepth 16384

noncomputable section

open Idealize.ShloMosaic Idealize.ShloMosaic.TcCoe Idealize.SL.Sem
open Cert.Row

namespace Cert.KernelRun

open Cert.KernelIdeal Cert.KernelIdeal.Gen

variable (m : (ℓ : Loc nD τ sig) → Buf (Elt Ideal) ℓ)

/-- The rows of the arguments on core `c`. -/
def rows (c : Dev nD) (b : Fin 40) (h : Fin 48) (p : Fin 64) : RowIn :=
  rowIn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b h p

/-- The row in sublane `j` of lane `l` in group `k`. -/
def group (c : Dev nD) (b : Fin 40) (k : Fin 6) (j : Fin 4) (l : Fin 128) : RowIn := rows m c b (headOf k l) (elemOf j l)

/-- Blocks that hold, at the indices of group `k`, the inputs of the rows `G`. -/
theorem reads_of {G : Fin 4 → Fin 128 → RowIn} (x0 : FVec Ideal S1x6x6x8x128 .f32) (x1 : FVec Ideal S1x6x512x128 .fp8e4m3)
    (x2 : FVec Ideal S1x6x8x128 .f32) (x3 x4 : FVec Ideal S1x6x1x512 .f32) (x5 : FVec Ideal S1x6x6x8x128 .f32)
    (x6 x7 x8 : FVec Ideal S6x8x128 .f32) (k : Fin 6)
    (h0 : ∀ t s l, x0 (ix5 0 (stepAt t) k s l) = (G (sub s) l).x t)
    (h1 : ∀ q n, x1 (ix4 0 k q n) = (G (rowOf q) (posOf q)).codes n)
    (h2 : ∀ s l, x2 (ix4 0 k s l) = (G (sub s) l).scale)
    (h3 : ∀ t q j l, x3 (ix4 0 (stepAt t) 0 q) = (G j l).b t (posOf q))
    (h4 : ∀ t q j l, x4 (ix4 0 (stepAt t) 0 q) = (G j l).c t (posOf q))
    (h5 : ∀ t s l, x5 (ix5 0 (stepAt t) k s l) = (G (sub s) l).dt t)
    (h6 : ∀ s l, x6 (ix3 k s l) = (G (sub s) l).bias)
    (h7 : ∀ s l, x7 (ix3 k s l) = (G (sub s) l).alog)
    (h8 : ∀ s l, x8 (ix3 k s l) = (G (sub s) l).skip) : Reads (blockRows x0 x1 x2 x3 x4 x5 x6 x7 x8 k) G where
  codes := h1
  scale := h2
  dt := h5
  x := h0
  b := h3
  c := h4
  bias := h6
  alog := h7
  skip := h8

/-- A point's blocks hold the rows of its batch. -/
theorem block_reads (c : Dev nD) (t : Fin cfg0.N) (k : Fin 6) :
    Reads (blockRows (iblk m c 0 t) (iblk m c 1 t) (iblk m c 2 t) (iblk m c 3 t) (iblk m c 4 t) (iblk m c 5 t) (iblk m c 6 t)
      (iblk m c 7 t) (iblk m c 8 t) k) (group m c (batch t) k) :=
  reads_of (iblk m c 0 t) (iblk m c 1 t) (iblk m c 2 t) (iblk m c 3 t) (iblk m c 4 t) (iblk m c 5 t) (iblk m c 6 t)
    (iblk m c 7 t) (iblk m c 8 t) k
    (fun u s l => iblk_0 m c t (stepAt u) k s l) (fun q n => iblk_1 m c t k q n) (fun s l => iblk_2 m c t k s l)
    (fun u q _ _ => iblk_3 m c t (stepAt u) q) (fun u q _ _ => iblk_4 m c t (stepAt u) q)
    (fun u s l => iblk_5 m c t (stepAt u) k s l) (fun s l => iblk_6 m c t k s l) (fun s l => iblk_7 m c t k s l)
    (fun s l => iblk_8 m c t k s l)

/-! ## The arrays the region leaves -/

def arrY (c : Dev nD) : FVec Ideal S40x6x6x8x128 .f32 := fun i => (group m c (i 0) (i 2) (sub (i 3)) (i 4)).y (i 1).val

def arrCodes (c : Dev nD) : FVec Ideal S40x6x6x512x128 .fp8e4m3 :=
  fun i => ((group m c (i 0) (i 2) (rowOf (i 3)) (posOf (i 3))).state ((i 1).val + 1)).1 (i 4)

def arrScale (c : Dev nD) : FVec Ideal S40x6x6x8x128 .f32 :=
  fun i => ((group m c (i 0) (i 2) (sub (i 3)) (i 4)).state ((i 1).val + 1)).2

theorem emb_9 (t : Fin cfg0.N) (u k : Fin 6) (s : Fin 8) (l : Fin 128) :
    (win0_9.blk t).view.emb (ix5 0 u k s l) = ix5 (batch t) u k s l := by
  blk_ext [idx t, batch]

theorem emb_10 (t : Fin cfg0.N) (u k : Fin 6) (q : Fin 512) (n : Fin 128) :
    (win0_10.blk t).view.emb (ix5 0 u k q n) = ix5 (batch t) u k q n := by
  blk_ext [idx t, batch]

theorem emb_11 (t : Fin cfg0.N) (u k : Fin 6) (s : Fin 8) (l : Fin 128) :
    (win0_11.blk t).view.emb (ix5 0 u k s l) = ix5 (batch t) u k s l := by
  blk_ext [idx t, batch]

theorem unit5 {a b c d : ℕ} (y : (⟨5, ![1, a, b, c, d]⟩ : Shape).Idx) : y = ix5 0 (y 1) (y 2) (y 3) (y 4) := by
  have h : y 0 = (0 : Fin 1) := Subsingleton.elim (α := Fin 1) _ _
  conv_lhs => rw [eq_ix5 y, h]
  rfl

theorem after_9 (c : Dev nD) (t : Fin cfg0.N) (u k : Fin 6) (s : Fin 8) (l : Fin 128) :
    ((dats m 0 c).after 9 t : FVec Ideal S1x6x6x8x128 .f32) (ix5 0 u k s l) = arrY m c (ix5 (batch t) u k s l) := by
  rw [after0_9]
  dsimp only [outsAt0]
  rw [out_y]
  exact y_at (block_reads m c t k) u s l

theorem after_10 (c : Dev nD) (t : Fin cfg0.N) (u k : Fin 6) (q : Fin 512) (n : Fin 128) :
    ((dats m 0 c).after 10 t : FVec Ideal S1x6x6x512x128 .fp8e4m3) (ix5 0 u k q n) = arrCodes m c (ix5 (batch t) u k q n) := by
  rw [after0_10]
  dsimp only [outsAt0]
  rw [out_ckpt]
  exact ckpt_at (block_reads m c t k) u q n

theorem after_11 (c : Dev nD) (t : Fin cfg0.N) (u k : Fin 6) (s : Fin 8) (l : Fin 128) :
    ((dats m 0 c).after 11 t : FVec Ideal S1x6x6x8x128 .f32) (ix5 0 u k s l) = arrScale m c (ix5 (batch t) u k s l) := by
  rw [after0_11]
  dsimp only [outsAt0]
  rw [out_osc]
  exact osc_at (block_reads m c t k) u s l

theorem array_9 (c : Dev nD) : (dats m 0 c).arrAt 9 cfg0.N = arrY m c := by
  refine (dats m 0 c).arrAt_eq_of_covers 9 (arrY m c) (by decide +kernel) fun t _ y => ?_
  blk_simp
  have hy := unit5 (y : S1x6x6x8x128.Idx)
  exact (congrArg _ hy).trans ((after_9 m c t (y 1) (y 2) (y 3) (y 4)).trans
    (congrArg (arrY m c) ((emb_9 t (y 1) (y 2) (y 3) (y 4)).symm.trans (congrArg _ hy.symm))))

theorem array_10 (c : Dev nD) : (dats m 0 c).arrAt 10 cfg0.N = arrCodes m c := by
  refine (dats m 0 c).arrAt_eq_of_covers 10 (arrCodes m c) (by decide +kernel) fun t _ y => ?_
  blk_simp
  have hy := unit5 (y : S1x6x6x512x128.Idx)
  exact (congrArg _ hy).trans ((after_10 m c t (y 1) (y 2) (y 3) (y 4)).trans
    (congrArg (arrCodes m c) ((emb_10 t (y 1) (y 2) (y 3) (y 4)).symm.trans (congrArg _ hy.symm))))

theorem array_11 (c : Dev nD) : (dats m 0 c).arrAt 11 cfg0.N = arrScale m c := by
  refine (dats m 0 c).arrAt_eq_of_covers 11 (arrScale m c) (by decide +kernel) fun t _ y => ?_
  blk_simp
  have hy := unit5 (y : S1x6x6x8x128.Idx)
  exact (congrArg _ hy).trans ((after_11 m c t (y 1) (y 2) (y 3) (y 4)).trans
    (congrArg (arrScale m c) ((emb_11 t (y 1) (y 2) (y 3) (y 4)).symm.trans (congrArg _ hy.symm))))

/-! ## The results -/

theorem tail_38 (c : Dev nD) :
    Pipeline.afterTail₀ cfgs (dats m) 0 (V0 m) [hostOps1] c main_v38 = backY (arrY m c) := by
  unfold Pipeline.afterTail₀
  after_reads_simp
  exact congrArg backY ((Pipeline.withArrays_arr (cfgs 0).spec (by decide) c (V0 m c)
    (fun w => (dats m 0 c).arrAt w (cfgs 0).N) 9).trans (array_9 m c))

theorem tail_39 (c : Dev nD) :
    Pipeline.afterTail₀ cfgs (dats m) 0 (V0 m) [hostOps1] c main_v39 = backCodes (arrCodes m c) := by
  unfold Pipeline.afterTail₀
  after_reads_simp
  exact congrArg backCodes ((Pipeline.withArrays_arr (cfgs 0).spec (by decide) c (V0 m c)
    (fun w => (dats m 0 c).arrAt w (cfgs 0).N) 10).trans (array_10 m c))

theorem tail_42 (c : Dev nD) :
    Pipeline.afterTail₀ cfgs (dats m) 0 (V0 m) [hostOps1] c main_v42 = backY (arrScale m c) := by
  unfold Pipeline.afterTail₀
  after_reads_simp
  exact congrArg backY ((Pipeline.withArrays_arr (cfgs 0).spec (by decide) c (V0 m c)
    (fun w => (dats m 0 c).arrAt w (cfgs 0).N) 11).trans (array_11 m c))

/-- The row that a position's sublane and lane hold is the position's. -/
theorem group_back (c : Dev nD) (b : Fin 40) (h : Fin 48) (p : Fin 64) :
    group m c b (groupOf h) (sub (subOf p)) (laneOf h p) = rows m c b h p := by
  have e1 : headOf (groupOf h) (laneOf h p) = h := Fin.ext (by
    show (h : ℕ) / 8 * 8 + ((h : ℕ) % 8 * 16 + (p : ℕ) / 4) / 16 = h; omega)
  have e2 : elemOf (sub (subOf p)) (laneOf h p) = p := Fin.ext (by
    show ((h : ℕ) % 8 * 16 + (p : ℕ) / 4) % 16 * 4 + (p : ℕ) % 4 % 4 = p; omega)
  unfold group
  rw [e1, e2]

/-- The row that a position's code row holds is the position's. -/
theorem group_code (c : Dev nD) (b : Fin 40) (h : Fin 48) (p : Fin 64) :
    group m c b (groupOf h) (rowOf ⟨h % 8 * 64 + p, by omega⟩) (posOf ⟨h % 8 * 64 + p, by omega⟩) = rows m c b h p := by
  have e1 : headOf (groupOf h) (posOf ⟨h % 8 * 64 + p, by omega⟩) = h := Fin.ext (by
    show (h : ℕ) / 8 * 8 + ((h : ℕ) % 8 * 64 + (p : ℕ)) / 4 / 16 = h; omega)
  have e2 : elemOf (rowOf ⟨h % 8 * 64 + p, by omega⟩) (posOf ⟨h % 8 * 64 + p, by omega⟩) = p := Fin.ext (by
    show ((h : ℕ) % 8 * 64 + (p : ℕ)) / 4 % 16 * 4 + ((h : ℕ) % 8 * 64 + (p : ℕ)) % 4 = p; omega)
  unfold group
  rw [e1, e2]

/-- The outputs by batch, step, head and position. -/
def valY (c : Dev nD) : FVec Ideal S40x6x48x64 .f32 := fun i => (rows m c (i 0) (i 2) (i 3)).y (i 1).val

/-- The codes by batch, step, head, position and state column. -/
def valCodes (c : Dev nD) : FVec Ideal S40x6x48x64x128 .fp8e4m3 := fun i => ((rows m c (i 0) (i 2) (i 3)).state ((i 1).val + 1)).1 (i 4)

/-- The scales by batch, step, head and position. -/
def valScale (c : Dev nD) : FVec Ideal S40x6x48x64 .f32 := fun i => ((rows m c (i 0) (i 2) (i 3)).state ((i 1).val + 1)).2

theorem back_y (c : Dev nD) : backY (arrY m c) = valY m c := by
  funext i
  refine (congrArg _ (eq_ix4 (i : S40x6x48x64.Idx))).trans ((backY_at _ (i 0) (i 1) (i 2) (i 3)).trans ?_)
  exact congrArg (fun R => RowIn.y R (i 1).val) (group_back m c (i 0) (i 2) (i 3))

theorem back_codes (c : Dev nD) : backCodes (arrCodes m c) = valCodes m c := by
  funext i
  refine (congrArg _ (eq_ix5 (i : S40x6x48x64x128.Idx))).trans ((backCodes_at _ (i 0) (i 1) (i 2) (i 3) (i 4)).trans ?_)
  exact congrArg (fun R => (RowIn.state R ((i 1).val + 1)).1 (i 4)) (group_code m c (i 0) (i 2) (i 3))

theorem back_scale (c : Dev nD) : backY (arrScale m c) = valScale m c := by
  funext i
  refine (congrArg _ (eq_ix4 (i : S40x6x48x64.Idx))).trans ((backY_at _ (i 0) (i 1) (i 2) (i 3)).trans ?_)
  exact congrArg (fun R => (RowIn.state R ((i 1).val + 1)).2) (group_back m c (i 0) (i 2) (i 3))

/-- Every run ends with the rows' outputs, codes and scales in the results, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v38) = valY m c
    ∧ r.2.mem ((c.tc : Thread nD τ).loc main_v39) = valCodes m c
    ∧ r.2.mem ((c.tc : Thread nD τ).loc main_v42) = valScale m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c =>
    ⟨((h c).2 main_v38 (Pipeline.mem_restRefs_of main_v38 (by decide) (by decide))).trans ((tail_38 m c).trans (back_y m c)),
     ((h c).2 main_v39 (Pipeline.mem_restRefs_of main_v39 (by decide) (by decide))).trans ((tail_39 m c).trans (back_codes m c)),
     ((h c).2 main_v42 (Pipeline.mem_restRefs_of main_v42 (by decide) (by decide))).trans ((tail_42 m c).trans (back_scale m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c)⟩)
    (run_main m ρ)

end Cert.KernelRun
-- ==== Proof.RefStep.lean ====
module

public import proofs.«01_k».proof.Proof.Gen.ReferenceIdeal.Skeleton
public import proofs.«01_k».proof.Proof.Row
public import Idealize.ShloMosaic.Lib.Pointwise

/-!
# The reference's step at an index

The reference's body is six steps written out. Each of the printed values is read here at an index, and a step's values
are those of the row at that index (`Cert.Row`).
-/

@[expose] public section

set_option maxRecDepth 16384

noncomputable section

open Idealize.ShloMosaic Idealize.ShloMosaic.TcCoe Idealize.SL.Sem
open Cert.Row Cert.Exponent

namespace Cert.RefRun

open Cert.ReferenceIdeal Cert.ReferenceIdeal.Gen

/-! ## The arrays over the whole sequence -/

theorem delta_at (v0 : FVec Ideal S40x6x48 .f32) (v1 : FVec Ideal S48 .f32) (b : Fin 40) (t : Fin 6) (h : Fin 48) :
    k0_pay5 (F := Ideal) v0 v1 (ix3 b t h) = delta (v0 (ix3 b t h)) (v1 (ix1 h)) := by
  pointwise [k0_pay5]
  rfl

theorem decay_at (v0 : FVec Ideal S40x6x48 .f32) (v1 v21 : FVec Ideal S48 .f32) (b : Fin 40) (t : Fin 6) (h : Fin 48) :
    k0_pay6 (F := Ideal) v0 v1 v21 (ix3 b t h) = decay (k0_pay5 (F := Ideal) v0 v1 (ix3 b t h)) (v21 (ix1 h)) := by
  pointwise [k0_pay6]
  rfl

theorem dx_at (v0 : FVec Ideal S40x6x48 .f32) (v1 : FVec Ideal S48 .f32) (v27 : FVec Ideal S40x6x48x64 .bf16) (b : Fin 40) (t : Fin 6) (h : Fin 48) (p : Fin 64) :
    k0_pay8 (F := Ideal) v0 v1 v27 (ix4 b t h p) = k0_pay5 (F := Ideal) v0 v1 (ix3 b t h) * v27 (ix4 b t h p) := by
  pointwise [k0_pay8, k0_pay7]

theorem skip_at (v27 : FVec Ideal S40x6x48x64 .bf16) (v32 : FVec Ideal S48 .f32) (b : Fin 40) (t : Fin 6) (h : Fin 48) (p : Fin 64) :
    k0_pay9 (F := Ideal) v27 v32 (ix4 b t h p) = v32 (ix1 h) * v27 (ix4 b t h p) := by
  pointwise [k0_pay9, k0_pay7]

/-! ## One step -/

/-- The largest magnitude along a row, divided by the largest magnitude of a code. -/
def rowMax (h : FVec Ideal S40x48x64x128 .f32) : FVec Ideal S40x48x64 .f32 :=
  mulf (multiReduction .maximumf [3] S40x48x64 (absf h) 0xFF800000#32 reduces_S40x48x64x128_S40x48x64 (.inl rfl) rfl)
    (broadcast S40x48x64 (Scalar.ofBits .f32 0x3B124925#32))

/-- The exponent, over the words of its constants. -/
def exponentOf (u v w z : BitVec 32) (r : FVec Ideal S40x48x64 .f32) : IVec S40x48x64 32 :=
  select (cmpf .olt r (broadcast S40x48x64 (Scalar.ofBits .f32 u))) (broadcast S40x48x64 0#32)
    (select (cmpf .oeq r (broadcast S40x48x64 (Scalar.ofBits .f32 v))) (broadcast S40x48x64 129#32)
      (addi (fptosi 32 (minimumf (floor (divf (log r) (log (broadcast S40x48x64 (Scalar.ofBits .f32 w)))))
        (broadcast S40x48x64 (Scalar.ofBits .f32 z)))) (broadcast S40x48x64 1#32)))

/-- The exponent. -/
def exponent (r : FVec Ideal S40x48x64 .f32) : IVec S40x48x64 32 :=
  exponentOf 0x00800000#32 0x7F800000#32 0x40000000#32 0x42FE0000#32 r

theorem largest_at (h : FVec Ideal S40x48x64x128 .f32) (b : Fin 40) (hd : Fin 48) (p : Fin 64) :
    multiReduction (F := Ideal) .maximumf [3] S40x48x64 (absf h) 0xFF800000#32 reduces_S40x48x64x128_S40x48x64 (.inl rfl) rfl (ix3 b hd p)
      = Finset.univ.fold max (Ideal.ofBits .f32 4286578688#32) fun n : Fin 128 => FloatOps.absf (F := Ideal) (φ := .f32) (h (ix4 b hd p n)) := by
  pointwise []

theorem scaled_at (w : BitVec 32) (a : FVec Ideal S40x48x64 .f32) (i : S40x48x64.Idx) :
    mulf a (broadcast S40x48x64 (Scalar.ofBits .f32 w)) i = a i * Ideal.ofBits .f32 w := rfl

theorem rowMax_at (h : FVec Ideal S40x48x64x128 .f32) (b : Fin 40) (hd : Fin 48) (p : Fin 64) :
    rowMax h (ix3 b hd p) = amax fun n => h (ix4 b hd p n) := by
  unfold rowMax amax
  rw [scaled_at, largest_at]

theorem exponentOf_at (u v w z : BitVec 32) (r : FVec Ideal S40x48x64 .f32) (b : Fin 40) (hd : Fin 48) (p : Fin 64) :
    exponentOf u v w z r (ix3 b hd p) = if r (ix3 b hd p) < Ideal.ofBits .f32 u then 0#32
      else if r (ix3 b hd p) = Ideal.ofBits .f32 v then 129#32
      else Ideal.fptosi 32 (min (Ideal.liftRound Int.floor (Ideal.div (Ideal.log (r (ix3 b hd p))) (Ideal.log (Ideal.ofBits .f32 w))))
        (Ideal.ofBits .f32 z)) + 1#32 := by
  pointwise [exponentOf]
  rfl

theorem top_word : Ideal.ofBits .f32 0x7F800000#32 = ⊤ := by
  simp [Ideal.ofBits, Ideal.ieee]

theorem frexp_words (u v w z : BitVec 32) (hv : Ideal.ofBits .f32 v = ⊤) (r : FVec Ideal S40x48x64 .f32) (b : Fin 40) (hd : Fin 48)
    (p : Fin 64) : exponentOf u v w z r (ix3 b hd p) = if r (ix3 b hd p) < Ideal.ofBits .f32 u then 0#32
      else if r (ix3 b hd p) = ⊤ then 129#32
      else Ideal.fptosi 32 (min (Ideal.liftRound Int.floor (Ideal.div (Ideal.log (r (ix3 b hd p))) (Ideal.log (Ideal.ofBits .f32 w))))
        (Ideal.ofBits .f32 z)) + 1#32 := by
  rw [exponentOf_at, hv]

theorem exponent_at (r : FVec Ideal S40x48x64 .f32) (b : Fin 40) (hd : Fin 48) (p : Fin 64) :
    exponent r (ix3 b hd p) = frexp (r (ix3 b hd p)) :=
  frexp_words _ _ _ _ top_word r b hd p

/-- The exponent of a row. -/
def expo (h : FVec Ideal S40x48x64x128 .f32) : IVec S40x48x64 32 := exponent (rowMax h)

theorem expo_at (h : FVec Ideal S40x48x64x128 .f32) (b : Fin 40) (hd : Fin 48) (p : Fin 64) :
    expo h (ix3 b hd p) = frexp (amax fun n => h (ix4 b hd p n)) :=
  (exponent_at _ b hd p).trans (congrArg frexp (rowMax_at h b hd p))

theorem codes_at (h : FVec Ideal S40x48x64x128 .f32) (e : IVec S40x48x64 32) (b : Fin 40) (hd : Fin 48) (p : Fin 64) (n : Fin 128) :
    k0_pay13 (F := Ideal) h e (ix4 b hd p n) = min (Ideal.ofBits .f32 1138753536#32) (max (Ideal.ofBits .f32 3286237184#32)
      (h (ix4 b hd p n) * Ideal.ofBits .f32 ((0#32 - e (ix3 b hd p) + 127#32) <<< 23#32))) := by
  pointwise [k0_pay13]
  rfl

theorem scale_at (e : IVec S40x48x64 32) (b : Fin 40) (hd : Fin 48) (p : Fin 64) :
    k0_pay14 (F := Ideal) e (ix3 b hd p) = Ideal.ofBits .f32 ((e (ix3 b hd p) + 127#32) <<< 23#32) := by
  pointwise [k0_pay14]
  rfl

theorem deq_at (h : FVec Ideal S40x48x64x128 .f32) (e : IVec S40x48x64 32) (b : Fin 40) (hd : Fin 48) (p : Fin 64) (n : Fin 128) :
    k0_pay15 (F := Ideal) h e (ix4 b hd p n) = k0_pay13 (F := Ideal) h e (ix4 b hd p n) * k0_pay14 (F := Ideal) e (ix3 b hd p) := by
  pointwise [k0_pay15]

/-- A row of the state. -/
abbrev row (h : FVec Ideal S40x48x64x128 .f32) (b : Fin 40) (hd : Fin 48) (p : Fin 64) (n : Fin 128) : EReal := h (ix4 b hd p n)

theorem newScale_at (h : FVec Ideal S40x48x64x128 .f32) (b : Fin 40) (hd : Fin 48) (p : Fin 64) :
    k0_pay14 (F := Ideal) (expo h) (ix3 b hd p) = newScale (row h b hd p) := by
  rw [scale_at, expo_at, ← (words_eq _).1]
  rfl

theorem newCodes_at (h : FVec Ideal S40x48x64x128 .f32) (b : Fin 40) (hd : Fin 48) (p : Fin 64) (n : Fin 128) :
    k0_pay13 (F := Ideal) h (expo h) (ix4 b hd p n) = newCodes (row h b hd p) n := by
  rw [codes_at, expo_at, ← (words_eq _).2]
  rfl

/-! ## The printed values are those of the step -/

theorem pay12_eq (a b c : _) (d : _) (e : _) :
    k0_pay12 (F := Ideal) a b c d e = expo (k0_pay11 (F := Ideal) a b c d e) := by
  simp only [k0_pay12, expo, exponent, exponentOf, rowMax]
theorem pay20_eq (a b c d : _) : k0_pay20 (F := Ideal) a b c d = expo (k0_pay19 (F := Ideal) a b c d) := by
  simp only [k0_pay20, expo, exponent, exponentOf, rowMax]
theorem pay29_eq (a b c d : _) : k0_pay29 (F := Ideal) a b c d = expo (k0_pay28 (F := Ideal) a b c d) := by
  simp only [k0_pay29, expo, exponent, exponentOf, rowMax]
theorem pay39_eq (a b c d : _) : k0_pay39 (F := Ideal) a b c d = expo (k0_pay38 (F := Ideal) a b c d) := by
  simp only [k0_pay39, expo, exponent, exponentOf, rowMax]
theorem pay49_eq (a b c d : _) : k0_pay49 (F := Ideal) a b c d = expo (k0_pay48 (F := Ideal) a b c d) := by
  simp only [k0_pay49, expo, exponent, exponentOf, rowMax]
theorem pay60_eq (a b c : _) : k0_pay60 (F := Ideal) a b c = expo (k0_pay59 (F := Ideal) a b c) := by
  simp only [k0_pay60, expo, exponent, exponentOf, rowMax]

/-! The codes and the scales, which the printed values cut at different places. -/

theorem codes_1 (h : FVec Ideal S40x48x64x128 .f32) (v26 : FVec Ideal S40x6x48 .f32) (v31 : FVec Ideal S40x6x48x64 .f32) (v38 : FVec Ideal S40x6x1x128 .f32) (v106 : FVec Ideal S40x48x64x128 .f32) :
    k0_pay22 (F := Ideal) h (k0_pay21 v26 v31 v38 v106) 127#32 = k0_pay13 h (k0_pay20 v26 v31 v38 v106) := by
  simp only [k0_pay22, k0_pay21, k0_pay13]

theorem codes_2 (h : FVec Ideal S40x48x64x128 .f32) (v26 : FVec Ideal S40x6x48 .f32) (v31 : FVec Ideal S40x6x48x64 .f32) (v38 : FVec Ideal S40x6x1x128 .f32) (v106 : FVec Ideal S40x48x64x128 .f32) :
    k0_pay32 (F := Ideal) h (k0_pay30 v26 v31 v38 v106) k0_pay31 = k0_pay13 h (k0_pay29 v26 v31 v38 v106) := by
  simp only [k0_pay32, k0_pay30, k0_pay31, k0_pay13]

theorem codes_3 (h : FVec Ideal S40x48x64x128 .f32) (v26 : FVec Ideal S40x6x48 .f32) (v31 : FVec Ideal S40x6x48x64 .f32) (v38 : FVec Ideal S40x6x1x128 .f32) (v106 : FVec Ideal S40x48x64x128 .f32) :
    k0_pay41 (F := Ideal) h (k0_pay40 v26 v31 v38 v106) = k0_pay13 h (k0_pay39 v26 v31 v38 v106) := by
  simp only [k0_pay41, k0_pay40, k0_pay13]

theorem codes_4 (v31 : FVec Ideal S40x6x48x64 .f32) (v38 : FVec Ideal S40x6x1x128 .f32) (v355 : FVec Ideal S40x48x64x128 .f32) (v379 : FVec Ideal S40x48 .f32) :
    k0_pay52 (F := Ideal) (k0_pay50 v31 v38 v355 v379) (Scalar.ofBits .f32 0x43E00000#32) k0_pay51 = k0_pay13 (k0_pay48 v31 v38 v355 v379) (k0_pay49 v31 v38 v355 v379) := by
  simp only [k0_pay52, k0_pay50, k0_pay51, k0_pay13]

theorem codes_5 (v38 : FVec Ideal S40x6x1x128 .f32) (v465 : FVec Ideal S40x48x64x128 .f32) (v466 : FVec Ideal S40x1x48x64 .f32) :
    k0_pay61 (F := Ideal) v38 v465 v466 = k0_pay13 (k0_pay59 v38 v465 v466) (k0_pay60 v38 v465 v466) := by
  simp only [k0_pay61, k0_pay13]

theorem scale_1 (e : IVec S40x48x64 32) :
    k0_pay23 (F := Ideal) e = k0_pay14 e := by
  simp only [k0_pay23, k0_pay14]

theorem scale_2 (e : IVec S40x48x64 32) :
    k0_pay33 (F := Ideal) e = k0_pay14 e := by
  simp only [k0_pay33, k0_pay14]

theorem scale_3 (e : IVec S40x48x64 32) :
    k0_pay42 (F := Ideal) e = k0_pay14 e := by
  simp only [k0_pay42, k0_pay14]

theorem scale_4 (e : IVec S40x48x64 32) :
    k0_pay53 (F := Ideal) e = k0_pay14 e := by
  simp only [k0_pay53, k0_pay14]

theorem scale_5 (e : IVec S40x48x64 32) :
    k0_pay1 (F := Ideal) e = k0_pay14 e := by
  simp only [k0_pay1, k0_pay14]

/-! The rounded state a step leaves. -/

theorem held_1 (h : FVec Ideal S40x48x64x128 .f32) (e e' : IVec S40x48x64 32) (c : BitVec 32) (b : Fin 40) (hd : Fin 48) (p : Fin 64) (n : Fin 128) :
    k0_pay24 (F := Ideal) h e e' c (ix4 b hd p n) = k0_pay22 (F := Ideal) h e' c (ix4 b hd p n) * k0_pay23 (F := Ideal) e (ix3 b hd p) := by
  pointwise [k0_pay24]

theorem held_2 (h : FVec Ideal S40x48x64x128 .f32) (e e' e'' : IVec S40x48x64 32) (b : Fin 40) (hd : Fin 48) (p : Fin 64) (n : Fin 128) :
    k0_pay34 (F := Ideal) h e e' e'' (ix4 b hd p n) = k0_pay32 (F := Ideal) h e' e'' (ix4 b hd p n) * k0_pay33 (F := Ideal) e (ix3 b hd p) := by
  pointwise [k0_pay34]

theorem held_3 (h h' : FVec Ideal S40x48x64x128 .f32) (e : IVec S40x48x64 32) (b : Fin 40) (hd : Fin 48) (p : Fin 64) (n : Fin 128) :
    k0_pay43 (F := Ideal) h e h' (ix4 b hd p n) = k0_pay41 (F := Ideal) h h' (ix4 b hd p n) * k0_pay42 (F := Ideal) e (ix3 b hd p) := by
  pointwise [k0_pay43]

theorem held_4 (v26 : FVec Ideal S40x6x48 .f32) (e : IVec S40x48x64 32) (h h' : FVec Ideal S40x48x64x128 .f32) (c : Ideal .f32) (b : Fin 40) (hd : Fin 48) (p : Fin 64) (n : Fin 128) :
    k0_pay57 (F := Ideal) v26 e h c h' (ix4 b hd p n)
      = v26 (ix3 b 5 hd) * (k0_pay52 (F := Ideal) h c h' (ix4 b hd p n) * k0_pay53 (F := Ideal) e (ix3 b hd p)) := by
  pointwise [k0_pay57]

/-! The state grown by a step. -/

theorem grown_0 (v26 : FVec Ideal S40x6x48 .f32) (v31 : FVec Ideal S40x6x48x64 .f32) (v38 : FVec Ideal S40x6x1x128 .f32)
    (v40 : FVec Ideal S40x48x64x128 .fp8e4m3) (v41 : FVec Ideal S40x48x64 .f32) (b : Fin 40) (hd : Fin 48) (p : Fin 64) (n : Fin 128) :
    k0_pay11 (F := Ideal) v26 v31 v38 v40 v41 (ix4 b hd p n)
      = v26 (ix3 b 0 hd) * (v40 (ix4 b hd p n) * v41 (ix3 b hd p)) + v31 (ix4 b 0 hd p) * v38 (ix4 b 0 0 n) := by
  pointwise [k0_pay11]

theorem grown_1 (v26 : FVec Ideal S40x6x48 .f32) (v31 : FVec Ideal S40x6x48x64 .f32) (v38 : FVec Ideal S40x6x1x128 .f32) (v106 : FVec Ideal S40x48x64x128 .f32) (b : Fin 40) (hd : Fin 48) (p : Fin 64) (n : Fin 128) :
    k0_pay19 (F := Ideal) v26 v31 v38 v106 (ix4 b hd p n)
      = v26 (ix3 b 1 hd) * v106 (ix4 b hd p n) + v31 (ix4 b 1 hd p) * v38 (ix4 b 1 0 n) := by
  pointwise [k0_pay19]

theorem grown_2 (v26 : FVec Ideal S40x6x48 .f32) (v31 : FVec Ideal S40x6x48x64 .f32) (v38 : FVec Ideal S40x6x1x128 .f32) (v106 : FVec Ideal S40x48x64x128 .f32) (b : Fin 40) (hd : Fin 48) (p : Fin 64) (n : Fin 128) :
    k0_pay28 (F := Ideal) v26 v31 v38 v106 (ix4 b hd p n)
      = v26 (ix3 b 2 hd) * v106 (ix4 b hd p n) + v31 (ix4 b 2 hd p) * v38 (ix4 b 2 0 n) := by
  pointwise [k0_pay28]

theorem grown_3 (v26 : FVec Ideal S40x6x48 .f32) (v31 : FVec Ideal S40x6x48x64 .f32) (v38 : FVec Ideal S40x6x1x128 .f32) (v106 : FVec Ideal S40x48x64x128 .f32) (b : Fin 40) (hd : Fin 48) (p : Fin 64) (n : Fin 128) :
    k0_pay38 (F := Ideal) v26 v31 v38 v106 (ix4 b hd p n)
      = v26 (ix3 b 3 hd) * v106 (ix4 b hd p n) + v31 (ix4 b 3 hd p) * v38 (ix4 b 3 0 n) := by
  pointwise [k0_pay38]

theorem grown_4 (v31 : FVec Ideal S40x6x48x64 .f32) (v38 : FVec Ideal S40x6x1x128 .f32) (v355 : FVec Ideal S40x48x64x128 .f32) (v379 : FVec Ideal S40x48 .f32) (b : Fin 40) (hd : Fin 48) (p : Fin 64) (n : Fin 128) :
    k0_pay48 (F := Ideal) v31 v38 v355 v379 (ix4 b hd p n)
      = v379 (ix2 b hd) * v355 (ix4 b hd p n) + v31 (ix4 b 4 hd p) * v38 (ix4 b 4 0 n) := by
  pointwise [k0_pay48]

theorem decay_4 (v26 : FVec Ideal S40x6x48 .f32) (b : Fin 40) (hd : Fin 48) :
    k0_pay47 (F := Ideal) v26 (ix2 b hd) = v26 (ix3 b 4 hd) := by
  pointwise [k0_pay47]

theorem grown_5 (v38 : FVec Ideal S40x6x1x128 .f32) (v465 : FVec Ideal S40x48x64x128 .f32) (v466 : FVec Ideal S40x1x48x64 .f32) (b : Fin 40) (hd : Fin 48) (p : Fin 64) (n : Fin 128) :
    k0_pay59 (F := Ideal) v38 v465 v466 (ix4 b hd p n)
      = v465 (ix4 b hd p n) + v466 (ix4 b 0 hd p) * v38 (ix4 b 5 0 n) := by
  pointwise [k0_pay59]

theorem dx_5 (v31 : FVec Ideal S40x6x48x64 .f32) (b : Fin 40) (hd : Fin 48) (p : Fin 64) :
    k0_pay58 (F := Ideal) v31 (ix4 b 0 hd p) = v31 (ix4 b 5 hd p) := by
  pointwise [k0_pay58]

theorem b_at (v37 : FVec Ideal S40x6x1x128 .bf16) (i : S40x6x1x128.Idx) : k0_pay10 (F := Ideal) v37 i = v37 i := by
  pointwise [k0_pay10]

/-! What a step stores. -/

theorem y_0 (v36 : FVec Ideal S40x6x48x64 .f32) (v39 : FVec Ideal S40x6x1x128 .bf16) (h : FVec Ideal S40x48x64x128 .f32) (e : IVec S40x48x64 32) (b : Fin 40) (hd : Fin 48) (p : Fin 64) :
    k0_pay16 (F := Ideal) v36 v39 h e (ix4 b 0 hd p)
      = (∑ n : Fin 128, k0_pay13 (F := Ideal) h e (ix4 b hd p n) * v39 (ix4 b 0 0 n)) * k0_pay14 (F := Ideal) e (ix3 b hd p) + v36 (ix4 b 0 hd p) := by
  pointwise [k0_pay16]

theorem y_1 (v36 : FVec Ideal S40x6x48x64 .f32) (v39 : FVec Ideal S40x6x1x128 .bf16) (h : FVec Ideal S40x48x64x128 .f32) (e e' : IVec S40x48x64 32) (c : BitVec 32) (b : Fin 40) (hd : Fin 48) (p : Fin 64) :
    k0_pay25 (F := Ideal) v36 v39 h e e' c (ix4 b 0 hd p)
      = (∑ n : Fin 128, k0_pay22 (F := Ideal) h e' c (ix4 b hd p n) * v39 (ix4 b 1 0 n)) * k0_pay23 (F := Ideal) e (ix3 b hd p) + v36 (ix4 b 1 hd p) := by
  pointwise [k0_pay25]

theorem y_2 (v36 : FVec Ideal S40x6x48x64 .f32) (v39 : FVec Ideal S40x6x1x128 .bf16) (h : FVec Ideal S40x48x64x128 .f32) (e e' e'' : IVec S40x48x64 32) (b : Fin 40) (hd : Fin 48) (p : Fin 64) :
    k0_pay35 (F := Ideal) v36 v39 h e e' e'' (ix4 b 0 hd p)
      = (∑ n : Fin 128, k0_pay32 (F := Ideal) h e' e'' (ix4 b hd p n) * v39 (ix4 b 2 0 n)) * k0_pay33 (F := Ideal) e (ix3 b hd p) + v36 (ix4 b 2 hd p) := by
  pointwise [k0_pay35]

theorem y_3 (v36 : FVec Ideal S40x6x48x64 .f32) (v39 : FVec Ideal S40x6x1x128 .bf16) (h h' : FVec Ideal S40x48x64x128 .f32) (e : IVec S40x48x64 32) (b : Fin 40) (hd : Fin 48) (p : Fin 64) :
    k0_pay44 (F := Ideal) v36 v39 h e h' (ix4 b 0 hd p)
      = (∑ n : Fin 128, k0_pay41 (F := Ideal) h h' (ix4 b hd p n) * v39 (ix4 b 3 0 n)) * k0_pay42 (F := Ideal) e (ix3 b hd p) + v36 (ix4 b 3 hd p) := by
  pointwise [k0_pay44]

theorem y_4 (v36 : FVec Ideal S40x6x48x64 .f32) (v39 : FVec Ideal S40x6x1x128 .bf16) (e : IVec S40x48x64 32) (h h' : FVec Ideal S40x48x64x128 .f32) (c : Ideal .f32) (b : Fin 40) (hd : Fin 48) (p : Fin 64) :
    k0_pay54 (F := Ideal) v36 v39 e h c h' (ix4 b 0 hd p)
      = (∑ n : Fin 128, k0_pay52 (F := Ideal) h c h' (ix4 b hd p n) * v39 (ix4 b 4 0 n)) * k0_pay53 (F := Ideal) e (ix3 b hd p) + v36 (ix4 b 4 hd p) := by
  pointwise [k0_pay54]

theorem y_5 (v36 : FVec Ideal S40x6x48x64 .f32) (v39 : FVec Ideal S40x6x1x128 .bf16) (e : IVec S40x48x64 32) (q : FVec Ideal S40x48x64x128 .fp8e4m3) (b : Fin 40) (hd : Fin 48) (p : Fin 64) :
    k0_pay2 (F := Ideal) v36 v39 e q (ix4 b 0 hd p)
      = (∑ n : Fin 128, q (ix4 b hd p n) * v39 (ix4 b 5 0 n)) * k0_pay1 (F := Ideal) e (ix3 b hd p) + v36 (ix4 b 5 hd p) := by
  pointwise [k0_pay2]

theorem ckpt_0 (q : FVec Ideal S40x48x64x128 .fp8e4m3) (b : Fin 40) (hd : Fin 48) (p : Fin 64) (n : Fin 128) :
    k0_pay17 (F := Ideal) q (ix5 b 0 hd p n) = q (ix4 b hd p n) := by
  pointwise [k0_pay17]

theorem ckpt_1 (h : FVec Ideal S40x48x64x128 .f32) (e : IVec S40x48x64 32) (c : BitVec 32) (b : Fin 40) (hd : Fin 48) (p : Fin 64) (n : Fin 128) :
    k0_pay26 (F := Ideal) h e c (ix5 b 0 hd p n) = k0_pay22 (F := Ideal) h e c (ix4 b hd p n) := by
  pointwise [k0_pay26]

theorem ckpt_2 (h : FVec Ideal S40x48x64x128 .f32) (e e' : IVec S40x48x64 32) (b : Fin 40) (hd : Fin 48) (p : Fin 64) (n : Fin 128) :
    k0_pay36 (F := Ideal) h e e' (ix5 b 0 hd p n) = k0_pay32 (F := Ideal) h e e' (ix4 b hd p n) := by
  pointwise [k0_pay36]

theorem ckpt_3 (h h' : FVec Ideal S40x48x64x128 .f32) (b : Fin 40) (hd : Fin 48) (p : Fin 64) (n : Fin 128) :
    k0_pay45 (F := Ideal) h h' (ix5 b 0 hd p n) = k0_pay41 (F := Ideal) h h' (ix4 b hd p n) := by
  pointwise [k0_pay45]

theorem ckpt_4 (h h' : FVec Ideal S40x48x64x128 .f32) (c : Ideal .f32) (b : Fin 40) (hd : Fin 48) (p : Fin 64) (n : Fin 128) :
    k0_pay55 (F := Ideal) h c h' (ix5 b 0 hd p n) = k0_pay52 (F := Ideal) h c h' (ix4 b hd p n) := by
  pointwise [k0_pay55]

theorem ckpt_5 (q : FVec Ideal S40x48x64x128 .fp8e4m3) (b : Fin 40) (hd : Fin 48) (p : Fin 64) (n : Fin 128) :
    k0_pay3 (F := Ideal) q (ix5 b 0 hd p n) = q (ix4 b hd p n) := by
  pointwise [k0_pay3]

theorem osc_0 (q : FVec Ideal S40x48x64 .f32) (b : Fin 40) (hd : Fin 48) (p : Fin 64) :
    k0_pay18 (F := Ideal) q (ix4 b 0 hd p) = q (ix3 b hd p) := by
  pointwise [k0_pay18]

theorem osc_1 (q : FVec Ideal S40x48x64 .f32) (b : Fin 40) (hd : Fin 48) (p : Fin 64) :
    k0_pay27 (F := Ideal) q (ix4 b 0 hd p) = q (ix3 b hd p) := by
  pointwise [k0_pay27]

theorem osc_2 (q : FVec Ideal S40x48x64 .f32) (b : Fin 40) (hd : Fin 48) (p : Fin 64) :
    k0_pay37 (F := Ideal) q (ix4 b 0 hd p) = q (ix3 b hd p) := by
  pointwise [k0_pay37]

theorem osc_3 (e : IVec S40x48x64 32) (b : Fin 40) (hd : Fin 48) (p : Fin 64) :
    k0_pay46 (F := Ideal) e (ix4 b 0 hd p) = k0_pay42 (F := Ideal) e (ix3 b hd p) := by
  pointwise [k0_pay46]

theorem osc_4 (e : IVec S40x48x64 32) (b : Fin 40) (hd : Fin 48) (p : Fin 64) :
    k0_pay56 (F := Ideal) e (ix4 b 0 hd p) = k0_pay53 (F := Ideal) e (ix3 b hd p) := by
  pointwise [k0_pay56]

theorem osc_5 (e : IVec S40x48x64 32) (b : Fin 40) (hd : Fin 48) (p : Fin 64) :
    k0_pay4 (F := Ideal) e (ix4 b 0 hd p) = k0_pay1 (F := Ideal) e (ix3 b hd p) := by
  pointwise [k0_pay4]

end Cert.RefRun
-- ==== Proof.RefValue.lean ====
module

public import proofs.«01_k».proof.Proof.Gen.ReferenceIdeal.Frame
public import proofs.«01_k».proof.Proof.RefStep
public import Idealize.ShloMosaic.Lib.Pipeline.ValueKit

/-!
# The reference's results

Step by step the reference's state is the state of the rows (`Cert.Row`); so its three results are the rows' outputs,
codes and scales.
-/

@[expose] public section

set_option maxRecDepth 16384

noncomputable section

open Idealize.ShloMosaic Idealize.ShloMosaic.TcCoe Idealize.SL.Sem
open Cert.Row Cert.Exponent

namespace Cert.RefRun

open Cert.ReferenceIdeal Cert.ReferenceIdeal.Gen

/-! ## A step of all rows -/

/-- The codes and scales are those of the rows after `t` steps. -/
def Left (R : Fin 40 → Fin 48 → Fin 64 → RowIn) (t : ℕ) (q : FVec Ideal S40x48x64x128 .fp8e4m3) (s : FVec Ideal S40x48x64 .f32) : Prop :=
  ∀ b hd p, (∀ n, q (ix4 b hd p n) = ((R b hd p).state t).1 n) ∧ s (ix3 b hd p) = ((R b hd p).state t).2

/-- The state is that of the rows in step `t`, before it is rounded to codes. -/
def Grown (R : Fin 40 → Fin 48 → Fin 64 → RowIn) (t : ℕ) (h : FVec Ideal S40x48x64x128 .f32) : Prop :=
  ∀ b hd p, row h b hd p = (R b hd p).next ((R b hd p).state t) t

theorem left_of {R : Fin 40 → Fin 48 → Fin 64 → RowIn} {t : ℕ} {h : FVec Ideal S40x48x64x128 .f32} {e : IVec S40x48x64 32}
    (H : Grown R t h) (he : e = expo h) : Left R (t + 1) (k0_pay13 (F := Ideal) h e) (k0_pay14 (F := Ideal) e) := by
  subst he
  intro b hd p
  refine ⟨fun n => ?_, ?_⟩
  · rw [newCodes_at, H b hd p]
    rfl
  · rw [newScale_at, H b hd p]
    rfl

theorem grown_of {R : Fin 40 → Fin 48 → Fin 64 → RowIn} {t : ℕ} {q : FVec Ideal S40x48x64x128 .fp8e4m3} {s : FVec Ideal S40x48x64 .f32}
    {h : FVec Ideal S40x48x64x128 .f32} (L : Left R t q s)
    (e : ∀ b hd p n, h (ix4 b hd p n) = decay (delta ((R b hd p).dt t) (R b hd p).bias) (R b hd p).alog * (q (ix4 b hd p n) * s (ix3 b hd p))
      + delta ((R b hd p).dt t) (R b hd p).bias * (R b hd p).x t * (R b hd p).b t n) : Grown R t h := by
  intro b hd p
  funext n
  refine (e b hd p n).trans ?_
  rw [(L b hd p).1 n, (L b hd p).2, mul_left_comm]
  rfl

theorem y_of {R : Fin 40 → Fin 48 → Fin 64 → RowIn} {t : ℕ} {q : FVec Ideal S40x48x64x128 .fp8e4m3} {s : FVec Ideal S40x48x64 .f32}
    (L : Left R (t + 1) q s) (b : Fin 40) (hd : Fin 48) (p : Fin 64) :
    (∑ n : Fin 128, q (ix4 b hd p n) * (R b hd p).c t n) * s (ix3 b hd p) + (R b hd p).skip * (R b hd p).x t = (R b hd p).y t := by
  unfold RowIn.y
  rw [(L b hd p).2]
  refine congrArg (· * _ + _) (Finset.sum_congr rfl fun n _ => ?_)
  rw [(L b hd p).1 n, mul_comm]

/-! ## The reference's six steps -/

variable (x0 : FVec Ideal S40x6x48x64 .bf16) (x1 : FVec Ideal S40x48x64x128 .fp8e4m3) (x2 : FVec Ideal S40x48x64 .f32)
  (x3 x4 : FVec Ideal S40x6x1x128 .bf16) (x5 : FVec Ideal S40x6x48 .f32) (x6 x7 x8 : FVec Ideal S48 .f32)

theorem zero1 : (![0] : Fin S48.rank → Nat) = fun _ => 0 := funext fun a => by fin_cases a; rfl
theorem zero3 : (![0, 0, 0] : Fin S40x6x48.rank → Nat) = fun _ => 0 := funext fun a => by fin_cases a <;> rfl
theorem zero4 : (![0, 0, 0, 0] : Fin S40x6x48x64.rank → Nat) = fun _ => 0 := funext fun a => by fin_cases a <;> rfl

theorem ld_dt : View.ld (Val := Elt Ideal) (e' := .f32) x5 r0_0 = x5 := View.ld_unit_zero (Val := Elt Ideal) (e := .f32) (S := S40x6x48) zero3 _ x5
theorem ld_head (x : FVec Ideal S48 .f32) : View.ld (Val := Elt Ideal) (e' := .f32) x r0_1 = x := View.ld_unit_zero (Val := Elt Ideal) (e := .f32) (S := S48) zero1 _ x
theorem ld_x : View.ld (Val := Elt Ideal) (e' := .bf16) x0 r0_2 = x0 := View.ld_unit_zero (Val := Elt Ideal) (e := .bf16) (S := S40x6x48x64) zero4 _ x0
theorem ld_group (x : FVec Ideal S40x6x1x128 .bf16) : View.ld (Val := Elt Ideal) (e' := .bf16) x r0_3 = x := View.ld_unit_zero (Val := Elt Ideal) (e := .bf16) (S := S40x6x1x128) zero4 _ x
theorem ld_codes : View.ld (Val := Elt Ideal) (e' := .fp8e4m3) x1 r0_4 = x1 := View.ld_unit_zero (Val := Elt Ideal) (e := .fp8e4m3) (S := S40x48x64x128) zero4 _ x1
theorem ld_scale : View.ld (Val := Elt Ideal) (e' := .f32) x2 r0_5 = x2 := View.ld_unit_zero (Val := Elt Ideal) (e := .f32) (S := S40x48x64) zero3 _ x2

/-- The rows of the arrays. -/
abbrev rowsOf : Fin 40 → Fin 48 → Fin 64 → RowIn := fun b hd p => rowIn x0 x1 x2 x3 x4 x5 x6 x7 x8 b hd p

theorem whole_decay (b : Fin 40) (t : Fin 6) (hd : Fin 48) :
    k0_pay62 (F := Ideal) x0 x1 x2 x3 x4 x5 x6 x7 x8 (ix3 b t hd) = decay (delta (x5 (ix3 b t hd)) (x6 (ix1 hd))) (x7 (ix1 hd)) := by
  unfold k0_pay62
  rw [ld_dt, ld_head, ld_head, decay_at, delta_at]

theorem whole_dx (b : Fin 40) (t : Fin 6) (hd : Fin 48) (p : Fin 64) :
    k0_pay63 (F := Ideal) x0 x1 x2 x3 x4 x5 x6 x7 x8 (ix4 b t hd p) = delta (x5 (ix3 b t hd)) (x6 (ix1 hd)) * x0 (ix4 b t hd p) := by
  unfold k0_pay63
  rw [ld_dt, ld_head, ld_x, dx_at, delta_at]

theorem whole_skip (b : Fin 40) (t : Fin 6) (hd : Fin 48) (p : Fin 64) :
    k0_pay64 (F := Ideal) x0 x1 x2 x3 x4 x5 x6 x7 x8 (ix4 b t hd p) = x8 (ix1 hd) * x0 (ix4 b t hd p) := by
  unfold k0_pay64
  rw [ld_head, ld_x, skip_at]

theorem whole_b (b : Fin 40) (t : Fin 6) (n : Fin 128) :
    k0_pay65 (F := Ideal) x0 x1 x2 x3 x4 x5 x6 x7 x8 (ix4 b t 0 n) = x3 (ix4 b t 0 n) := by
  unfold k0_pay65
  rw [ld_group, b_at]

theorem left_0 : Left (rowsOf x0 x1 x2 x3 x4 x5 x6 x7 x8) 0 x1 x2 := fun _ _ _ => ⟨fun _ => rfl, rfl⟩

theorem grows_0 : Grown (rowsOf x0 x1 x2 x3 x4 x5 x6 x7 x8) 0 (k0_pay66 (F := Ideal) x0 x1 x2 x3 x4 x5 x6 x7 x8) :=
  grown_of (left_0 x0 x1 x2 x3 x4 x5 x6 x7 x8) fun b hd p n => by
    unfold k0_pay66
    rw [ld_codes, ld_scale, grown_0, whole_decay, whole_dx, whole_b]
    rfl

theorem left_1 : Left (rowsOf x0 x1 x2 x3 x4 x5 x6 x7 x8) 1 (k0_pay13 (F := Ideal) (k0_pay66 (F := Ideal) x0 x1 x2 x3 x4 x5 x6 x7 x8) (k0_pay67 (F := Ideal) x0 x1 x2 x3 x4 x5 x6 x7 x8)) (k0_pay14 (F := Ideal) (k0_pay67 (F := Ideal) x0 x1 x2 x3 x4 x5 x6 x7 x8)) :=
  left_of (grows_0 x0 x1 x2 x3 x4 x5 x6 x7 x8) (pay12_eq _ _ _ _ _)

theorem grows_1 : Grown (rowsOf x0 x1 x2 x3 x4 x5 x6 x7 x8) 1 (k0_pay69 (F := Ideal) x0 x1 x2 x3 x4 x5 x6 x7 x8) :=
  grown_of (left_1 x0 x1 x2 x3 x4 x5 x6 x7 x8) fun b hd p n => by
    unfold k0_pay69 k0_pay68
    rw [grown_1, deq_at, whole_decay, whole_dx, whole_b]
    rfl

theorem left_2 : Left (rowsOf x0 x1 x2 x3 x4 x5 x6 x7 x8) 2 (k0_pay22 (F := Ideal) (k0_pay69 (F := Ideal) x0 x1 x2 x3 x4 x5 x6 x7 x8) (k0_pay71 (F := Ideal) x0 x1 x2 x3 x4 x5 x6 x7 x8) 127#32) (k0_pay23 (F := Ideal) (k0_pay70 (F := Ideal) x0 x1 x2 x3 x4 x5 x6 x7 x8)) := by
  unfold k0_pay71
  rw [codes_1, scale_1]
  exact left_of (grows_1 x0 x1 x2 x3 x4 x5 x6 x7 x8) (pay20_eq _ _ _ _)

theorem grows_2 : Grown (rowsOf x0 x1 x2 x3 x4 x5 x6 x7 x8) 2 (k0_pay73 (F := Ideal) x0 x1 x2 x3 x4 x5 x6 x7 x8) :=
  grown_of (left_2 x0 x1 x2 x3 x4 x5 x6 x7 x8) fun b hd p n => by
    unfold k0_pay73 k0_pay72
    rw [grown_2, held_1, whole_decay, whole_dx, whole_b]
    rfl

theorem left_3 : Left (rowsOf x0 x1 x2 x3 x4 x5 x6 x7 x8) 3 (k0_pay32 (F := Ideal) (k0_pay73 (F := Ideal) x0 x1 x2 x3 x4 x5 x6 x7 x8) (k0_pay75 (F := Ideal) x0 x1 x2 x3 x4 x5 x6 x7 x8) (k0_pay76 (F := Ideal) x0 x1 x2 x3 x4 x5 x6 x7 x8)) (k0_pay33 (F := Ideal) (k0_pay74 (F := Ideal) x0 x1 x2 x3 x4 x5 x6 x7 x8)) := by
  unfold k0_pay75 k0_pay76
  rw [codes_2, scale_2]
  exact left_of (grows_2 x0 x1 x2 x3 x4 x5 x6 x7 x8) (pay29_eq _ _ _ _)

theorem grows_3 : Grown (rowsOf x0 x1 x2 x3 x4 x5 x6 x7 x8) 3 (k0_pay78 (F := Ideal) x0 x1 x2 x3 x4 x5 x6 x7 x8) :=
  grown_of (left_3 x0 x1 x2 x3 x4 x5 x6 x7 x8) fun b hd p n => by
    unfold k0_pay78 k0_pay77
    rw [grown_3, held_2, whole_decay, whole_dx, whole_b]
    rfl

theorem left_4 : Left (rowsOf x0 x1 x2 x3 x4 x5 x6 x7 x8) 4 (k0_pay41 (F := Ideal) (k0_pay78 (F := Ideal) x0 x1 x2 x3 x4 x5 x6 x7 x8) (k0_pay80 (F := Ideal) x0 x1 x2 x3 x4 x5 x6 x7 x8)) (k0_pay42 (F := Ideal) (k0_pay79 (F := Ideal) x0 x1 x2 x3 x4 x5 x6 x7 x8)) := by
  unfold k0_pay80
  rw [codes_3, scale_3]
  exact left_of (grows_3 x0 x1 x2 x3 x4 x5 x6 x7 x8) (pay39_eq _ _ _ _)

theorem grows_4 : Grown (rowsOf x0 x1 x2 x3 x4 x5 x6 x7 x8) 4 (k0_pay48 (F := Ideal) (k0_pay63 (F := Ideal) x0 x1 x2 x3 x4 x5 x6 x7 x8) (k0_pay65 (F := Ideal) x0 x1 x2 x3 x4 x5 x6 x7 x8) (k0_pay81 (F := Ideal) x0 x1 x2 x3 x4 x5 x6 x7 x8) (k0_pay82 (F := Ideal) x0 x1 x2 x3 x4 x5 x6 x7 x8)) :=
  grown_of (left_4 x0 x1 x2 x3 x4 x5 x6 x7 x8) fun b hd p n => by
    unfold k0_pay81 k0_pay82
    rw [grown_4, held_3, decay_4, whole_decay, whole_dx, whole_b]
    rfl

theorem left_5 : Left (rowsOf x0 x1 x2 x3 x4 x5 x6 x7 x8) 5 (k0_pay52 (F := Ideal) (k0_pay84 (F := Ideal) x0 x1 x2 x3 x4 x5 x6 x7 x8) (Scalar.ofBits .f32 0x43E00000#32) (k0_pay85 (F := Ideal) x0 x1 x2 x3 x4 x5 x6 x7 x8))
    (k0_pay53 (F := Ideal) (k0_pay83 (F := Ideal) x0 x1 x2 x3 x4 x5 x6 x7 x8)) := by
  unfold k0_pay84 k0_pay85
  rw [codes_4, scale_4]
  exact left_of (grows_4 x0 x1 x2 x3 x4 x5 x6 x7 x8) (pay49_eq _ _ _ _)

theorem grows_5 : Grown (rowsOf x0 x1 x2 x3 x4 x5 x6 x7 x8) 5 (k0_pay59 (F := Ideal) (k0_pay65 (F := Ideal) x0 x1 x2 x3 x4 x5 x6 x7 x8) (k0_pay86 (F := Ideal) x0 x1 x2 x3 x4 x5 x6 x7 x8) (k0_pay87 (F := Ideal) x0 x1 x2 x3 x4 x5 x6 x7 x8)) :=
  grown_of (left_5 x0 x1 x2 x3 x4 x5 x6 x7 x8) fun b hd p n => by
    unfold k0_pay86 k0_pay87
    rw [grown_5, held_4, dx_5, whole_decay, whole_dx, whole_b]
    rfl

theorem left_6 : Left (rowsOf x0 x1 x2 x3 x4 x5 x6 x7 x8) 6 (k0_pay89 (F := Ideal) x0 x1 x2 x3 x4 x5 x6 x7 x8) (k0_pay1 (F := Ideal) (k0_pay88 (F := Ideal) x0 x1 x2 x3 x4 x5 x6 x7 x8)) := by
  unfold k0_pay89
  rw [codes_5, scale_5]
  exact left_of (grows_5 x0 x1 x2 x3 x4 x5 x6 x7 x8) (pay60_eq _ _ _)

/-! ## The stored blocks -/

theorem piece {f : S40x1x48x64.Idx → EReal} {R : ℕ → Fin 40 → Fin 48 → Fin 64 → EReal} {k : ℕ}
    (hf : ∀ b hd p, f (ix4 b 0 hd p) = R k b hd p) (x : S40x1x48x64.Idx) (y : S40x6x48x64.Idx)
    (h0 : (y 0).val = (x 0).val) (h1 : (y 1).val = k) (h2 : (y 2).val = (x 2).val) (h3 : (y 3).val = (x 3).val) :
    f x = R (y 1).val (y 0) (y 2) (y 3) := by
  have e0 : (y 0 : Fin 40) = x 0 := Fin.ext h0
  have e2 : (y 2 : Fin 48) = x 2 := Fin.ext h2
  have e3 : (y 3 : Fin 64) = x 3 := Fin.ext h3
  have e1 : x 1 = (0 : Fin 1) := Subsingleton.elim (α := Fin 1) _ _
  refine (congrArg f (eq_ix4 x)).trans ((congrArg (fun a : Fin 1 => f (ix4 (x 0 : Fin 40) a (x 2 : Fin 48) (x 3 : Fin 64))) e1).trans ?_)
  refine (hf _ _ _).trans ?_
  rw [h1]
  exact congr (congr (congrArg (R k) e0.symm) e2.symm) e3.symm

theorem piece5 {f : S40x1x48x64x128.Idx → EReal} {R : ℕ → Fin 40 → Fin 48 → Fin 64 → Fin 128 → EReal} {k : ℕ}
    (hf : ∀ b hd p n, f (ix5 b 0 hd p n) = R k b hd p n) (x : S40x1x48x64x128.Idx) (y : S40x6x48x64x128.Idx)
    (h0 : (y 0).val = (x 0).val) (h1 : (y 1).val = k) (h2 : (y 2).val = (x 2).val) (h3 : (y 3).val = (x 3).val)
    (h4 : (y 4).val = (x 4).val) : f x = R (y 1).val (y 0) (y 2) (y 3) (y 4) := by
  have e0 : (y 0 : Fin 40) = x 0 := Fin.ext h0
  have e2 : (y 2 : Fin 48) = x 2 := Fin.ext h2
  have e3 : (y 3 : Fin 64) = x 3 := Fin.ext h3
  have e4 : (y 4 : Fin 128) = x 4 := Fin.ext h4
  have e1 : x 1 = (0 : Fin 1) := Subsingleton.elim (α := Fin 1) _ _
  refine (congrArg f (eq_ix5 x)).trans
    ((congrArg (fun a : Fin 1 => f (ix5 (x 0 : Fin 40) a (x 2 : Fin 48) (x 3 : Fin 64) (x 4 : Fin 128))) e1).trans ?_)
  refine (hf _ _ _ _).trans ?_
  rw [h1]
  exact congr (congr (congr (congrArg (R k) e0.symm) e2.symm) e3.symm) e4.symm

/-- The outputs of the rows. -/
def outs (k : ℕ) (b : Fin 40) (hd : Fin 48) (p : Fin 64) : EReal := (rowsOf x0 x1 x2 x3 x4 x5 x6 x7 x8 b hd p).y k
/-- The codes of the rows. -/
def ckpts (k : ℕ) (b : Fin 40) (hd : Fin 48) (p : Fin 64) (n : Fin 128) : EReal := ((rowsOf x0 x1 x2 x3 x4 x5 x6 x7 x8 b hd p).state (k + 1)).1 n
/-- The scales of the rows. -/
def scales (k : ℕ) (b : Fin 40) (hd : Fin 48) (p : Fin 64) : EReal := ((rowsOf x0 x1 x2 x3 x4 x5 x6 x7 x8 b hd p).state (k + 1)).2

theorem out_y (y : S40x6x48x64.Idx) : out0_9 (F := Ideal) x0 x1 x2 x3 x4 x5 x6 x7 x8 y = outs x0 x1 x2 x3 x4 x5 x6 x7 x8 (y 1).val (y 0) (y 2) (y 3) := by
  unfold out0_9
  rw [ld_group]
  canon_tiles x h
  · exact piece (fun b hd p => (y_5 ..).trans (by rw [whole_skip]; exact y_of (left_6 x0 x1 x2 x3 x4 x5 x6 x7 x8) b hd p)) x y (by omega) (by omega) (by omega) (by omega)
  · exact piece (fun b hd p => (y_4 ..).trans (by rw [whole_skip]; exact y_of (left_5 x0 x1 x2 x3 x4 x5 x6 x7 x8) b hd p)) x y (by omega) (by omega) (by omega) (by omega)
  · exact piece (fun b hd p => (y_3 ..).trans (by rw [whole_skip]; exact y_of (left_4 x0 x1 x2 x3 x4 x5 x6 x7 x8) b hd p)) x y (by omega) (by omega) (by omega) (by omega)
  · exact piece (fun b hd p => (y_2 ..).trans (by rw [whole_skip]; exact y_of (left_3 x0 x1 x2 x3 x4 x5 x6 x7 x8) b hd p)) x y (by omega) (by omega) (by omega) (by omega)
  · exact piece (fun b hd p => (y_1 ..).trans (by rw [whole_skip]; exact y_of (left_2 x0 x1 x2 x3 x4 x5 x6 x7 x8) b hd p)) x y (by omega) (by omega) (by omega) (by omega)
  · exact piece (fun b hd p => (y_0 ..).trans (by rw [whole_skip]; exact y_of (left_1 x0 x1 x2 x3 x4 x5 x6 x7 x8) b hd p)) x y (by omega) (by omega) (by omega) (by omega)

theorem out_codes (y : S40x6x48x64x128.Idx) : out0_10 (F := Ideal) x0 x1 x2 x3 x4 x5 x6 x7 x8 y = ckpts x0 x1 x2 x3 x4 x5 x6 x7 x8 (y 1).val (y 0) (y 2) (y 3) (y 4) := by
  unfold out0_10
  canon_tiles x h
  · exact piece5 (fun b hd p n => (ckpt_5 ..).trans ((left_6 x0 x1 x2 x3 x4 x5 x6 x7 x8 b hd p).1 n)) x y (by omega) (by omega) (by omega) (by omega) (by omega)
  · exact piece5 (fun b hd p n => (ckpt_4 ..).trans ((left_5 x0 x1 x2 x3 x4 x5 x6 x7 x8 b hd p).1 n)) x y (by omega) (by omega) (by omega) (by omega) (by omega)
  · exact piece5 (fun b hd p n => (ckpt_3 ..).trans ((left_4 x0 x1 x2 x3 x4 x5 x6 x7 x8 b hd p).1 n)) x y (by omega) (by omega) (by omega) (by omega) (by omega)
  · exact piece5 (fun b hd p n => (ckpt_2 ..).trans ((left_3 x0 x1 x2 x3 x4 x5 x6 x7 x8 b hd p).1 n)) x y (by omega) (by omega) (by omega) (by omega) (by omega)
  · exact piece5 (fun b hd p n => (ckpt_1 ..).trans ((left_2 x0 x1 x2 x3 x4 x5 x6 x7 x8 b hd p).1 n)) x y (by omega) (by omega) (by omega) (by omega) (by omega)
  · exact piece5 (fun b hd p n => (ckpt_0 ..).trans ((left_1 x0 x1 x2 x3 x4 x5 x6 x7 x8 b hd p).1 n)) x y (by omega) (by omega) (by omega) (by omega) (by omega)

theorem out_scale (y : S40x6x48x64.Idx) : out0_11 (F := Ideal) x0 x1 x2 x3 x4 x5 x6 x7 x8 y = scales x0 x1 x2 x3 x4 x5 x6 x7 x8 (y 1).val (y 0) (y 2) (y 3) := by
  unfold out0_11
  canon_tiles x h
  · exact piece (fun b hd p => (osc_5 ..).trans (left_6 x0 x1 x2 x3 x4 x5 x6 x7 x8 b hd p).2) x y (by omega) (by omega) (by omega) (by omega)
  · exact piece (fun b hd p => (osc_4 ..).trans (left_5 x0 x1 x2 x3 x4 x5 x6 x7 x8 b hd p).2) x y (by omega) (by omega) (by omega) (by omega)
  · exact piece (fun b hd p => (osc_3 ..).trans (left_4 x0 x1 x2 x3 x4 x5 x6 x7 x8 b hd p).2) x y (by omega) (by omega) (by omega) (by omega)
  · exact piece (fun b hd p => (osc_2 ..).trans (left_3 x0 x1 x2 x3 x4 x5 x6 x7 x8 b hd p).2) x y (by omega) (by omega) (by omega) (by omega)
  · exact piece (fun b hd p => (osc_1 ..).trans (left_2 x0 x1 x2 x3 x4 x5 x6 x7 x8 b hd p).2) x y (by omega) (by omega) (by omega) (by omega)
  · exact piece (fun b hd p => (osc_0 ..).trans (left_1 x0 x1 x2 x3 x4 x5 x6 x7 x8 b hd p).2) x y (by omega) (by omega) (by omega) (by omega)

end Cert.RefRun
-- ==== Proof.RefResults.lean ====
module

public import proofs.«01_k».proof.Proof.RefValue

/-!
# What a run of the reference leaves

The region has one point, whose blocks are the whole arrays. So the three results are the rows' outputs, codes and
scales, read off the argument arrays.
-/

@[expose] public section

set_option maxRecDepth 16384

noncomputable section

open Idealize.ShloMosaic Idealize.ShloMosaic.TcCoe Idealize.SL.Sem
open Cert.Row

namespace Cert.RefRun

open Cert.ReferenceIdeal Cert.ReferenceIdeal.Gen

variable (m : (ℓ : Loc nD τ sig) → Buf (Elt Ideal) ℓ)

theorem idx : ∀ t : Fin cfg0.N, win0_0.index t = ![0, 0, 0, 0] ∧ win0_1.index t = ![0, 0, 0, 0] ∧ win0_2.index t = ![0, 0, 0] ∧ win0_3.index t = ![0, 0, 0, 0] ∧ win0_4.index t = ![0, 0, 0, 0] ∧ win0_5.index t = ![0, 0, 0] ∧ win0_6.index t = ![0] ∧ win0_7.index t = ![0] ∧ win0_8.index t = ![0] ∧ win0_9.index t = ![0, 0, 0, 0] ∧ win0_10.index t = ![0, 0, 0, 0, 0] ∧ win0_11.index t = ![0, 0, 0, 0] :=
  (by decide +kernel : ∀ t : Fin grid0.N, _)

theorem blk_0 (c : Dev nD) : iblk m c 0 t0_0 = m ((c : Thread nD τ).loc main_arg0) := by
  funext j
  blk_simp [iblk]
  blk_ext [idx t0_0]

theorem blk_1 (c : Dev nD) : iblk m c 1 t0_0 = m ((c : Thread nD τ).loc main_arg1) := by
  funext j
  blk_simp [iblk]
  blk_ext [idx t0_0]

theorem blk_2 (c : Dev nD) : iblk m c 2 t0_0 = m ((c : Thread nD τ).loc main_arg2) := by
  funext j
  blk_simp [iblk]
  blk_ext [idx t0_0]

theorem blk_3 (c : Dev nD) : iblk m c 3 t0_0 = m ((c : Thread nD τ).loc main_arg3) := by
  funext j
  blk_simp [iblk]
  blk_ext [idx t0_0]

theorem blk_4 (c : Dev nD) : iblk m c 4 t0_0 = m ((c : Thread nD τ).loc main_arg4) := by
  funext j
  blk_simp [iblk]
  blk_ext [idx t0_0]

theorem blk_5 (c : Dev nD) : iblk m c 5 t0_0 = m ((c : Thread nD τ).loc main_arg5) := by
  funext j
  blk_simp [iblk]
  blk_ext [idx t0_0]

theorem blk_6 (c : Dev nD) : iblk m c 6 t0_0 = m ((c : Thread nD τ).loc main_arg6) := by
  funext j
  blk_simp [iblk]
  blk_ext [idx t0_0]

theorem blk_7 (c : Dev nD) : iblk m c 7 t0_0 = m ((c : Thread nD τ).loc main_arg7) := by
  funext j
  blk_simp [iblk]
  blk_ext [idx t0_0]

theorem blk_8 (c : Dev nD) : iblk m c 8 t0_0 = m ((c : Thread nD τ).loc main_arg8) := by
  funext j
  blk_simp [iblk]
  blk_ext [idx t0_0]

/-- The row of batch `b`, head `h` and position `p` of the argument arrays. -/
def rows (c : Dev nD) (b : Fin 40) (h : Fin 48) (p : Fin 64) : RowIn :=
  rowIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b h p

/-- The outputs by batch, step, head and position. -/
def valY (c : Dev nD) : FVec Ideal S40x6x48x64 .bf16 := fun i => (rows m c (i 0) (i 2) (i 3)).y (i 1).val

/-- The codes by batch, step, head, position and state column. -/
def valCodes (c : Dev nD) : FVec Ideal S40x6x48x64x128 .fp8e4m3 := fun i => ((rows m c (i 0) (i 2) (i 3)).state ((i 1).val + 1)).1 (i 4)

/-- The scales by batch, step, head and position. -/
def valScale (c : Dev nD) : FVec Ideal S40x6x48x64 .f32 := fun i => ((rows m c (i 0) (i 2) (i 3)).state ((i 1).val + 1)).2

theorem final_y (c : Dev nD) : (dats m 0 c).arrAt 9 (cfgs 0).N = valY m c := by
  refine (dats m 0 c).arrAt_eq_of_after_last 9 t0_0 (by decide +kernel) _ fun j => ?_
  blk_simp
  rw [after0_9, blk_0, blk_1, blk_2, blk_3, blk_4, blk_5, blk_6, blk_7, blk_8]
  exact out_y _ _ _ _ _ _ _ _ _ j

theorem final_codes (c : Dev nD) : (dats m 0 c).arrAt 10 (cfgs 0).N = valCodes m c := by
  refine (dats m 0 c).arrAt_eq_of_after_last 10 t0_0 (by decide +kernel) _ fun j => ?_
  blk_simp
  rw [after0_10, blk_0, blk_1, blk_2, blk_3, blk_4, blk_5, blk_6, blk_7, blk_8]
  exact out_codes _ _ _ _ _ _ _ _ _ j

theorem final_scale (c : Dev nD) : (dats m 0 c).arrAt 11 (cfgs 0).N = valScale m c := by
  refine (dats m 0 c).arrAt_eq_of_after_last 11 t0_0 (by decide +kernel) _ fun j => ?_
  blk_simp
  rw [after0_11, blk_0, blk_1, blk_2, blk_3, blk_4, blk_5, blk_6, blk_7, blk_8]
  exact out_scale _ _ _ _ _ _ _ _ _ j

/-- Every run ends with the rows' outputs, codes and scales in the results, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v0_0) = valY m c
    ∧ r.2.mem ((c.tc : Thread nD τ).loc main_v0_1) = valCodes m c
    ∧ r.2.mem ((c.tc : Thread nD τ).loc main_v0_2) = valScale m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c =>
    ⟨((h c).1 9).trans (final_y m c),
     ((h c).1 10).trans (final_codes m c),
     ((h c).1 11).trans (final_scale m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c))),
     ((h c).1 6).trans (((dats m 0 c).arrAt_in 6 rfl _).trans ((A_eq m c 6).trans (V_main_arg6 m c))),
     ((h c).1 7).trans (((dats m 0 c).arrAt_in 7 rfl _).trans ((A_eq m c 7).trans (V_main_arg7 m c))),
     ((h c).1 8).trans (((dats m 0 c).arrAt_in 8 rfl _).trans ((A_eq m c 8).trans (V_main_arg8 m c)))⟩)
    (run_main m ρ)

end Cert.RefRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.BitsFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.KernelFrame
public import proofs.«01_k».proof.Proof.KernelValue
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefResults
public import Idealize.ShloMosaic.Adequacy
public import Idealize.ShloMosaic.Init

@[expose] public section

noncomputable section

namespace Cert.Proof

open Idealize.ShloMosaic Idealize.SL.Sem Cert.Kernel

/-- From the same arguments the rows of the two programs are the same. -/
theorem rows_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.RefRun.rows m' c = Cert.KernelRun.rows m c := by
  obtain ⟨h0, h1, h2, h3, h4, h5, h6, h7, h8⟩ := h
  funext b hd p
  unfold Cert.RefRun.rows Cert.KernelRun.rows
  rw [h0, h1, h2, h3, h4, h5, h6, h7, h8]

theorem algebraic : Cert.algebraic_KernelIdeal_ReferenceIdeal := by
  intro m g m' g' _ h
  refine ⟨Cert.KernelRun.valY m, Cert.KernelRun.valCodes m, Cert.KernelRun.valScale m, Cert.KernelRun.run m g,
    (θ_run _ _ _).mono (fun r hr c => ?_) (Cert.RefRun.run m' g')⟩
  have e := rows_eq m m' c (h c)
  obtain ⟨hy, hc, hs, ha⟩ := hr c
  refine ⟨hy.trans ?_, hc.trans ?_, hs.trans ?_, ha⟩
  · unfold Cert.RefRun.valY Cert.KernelRun.valY
    rw [e]
  · unfold Cert.RefRun.valCodes Cert.KernelRun.valCodes
    rw [e]
  · unfold Cert.RefRun.valScale Cert.KernelRun.valScale
    rw [e]

theorem claim : Cert.Claim := ⟨Cert.Kernel.Gen.facts, Cert.KernelIdeal.Gen.facts, Cert.ReferenceIdeal.Gen.facts,
  fun m ρ _ => Cert.BitsRun.frame m ρ, fun m ρ _ => Cert.KernelRun.frame m ρ,
  fun m ρ _ => Cert.ReferenceIdeal.Gen.frame m ρ, trivial, algebraic⟩

end Cert.Proof

end
